-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8x10000x256 : Shape := ⟨3, ![8, 10000, 256]⟩
abbrev S160000x2 : Shape := ⟨2, ![160000, 2]⟩
abbrev S64x256 : Shape := ⟨2, ![64, 256]⟩
abbrev S_ : Shape := ⟨0, ![]⟩

class Facts : Prop where
  bcast_S_S160000x2 : S_.BroadcastsInDim S160000x2 (![] : Fin 0 → Fin S160000x2.rank)
  reducesTo_S160000x2_S_d0_1 : S160000x2.ReducesTo [0, 1] S_
  h_S_ : 0 < S_.numel

variable [Facts]

def fn {F : FTy → Type} [FloatOps F] (main_arg0 : FVec F S8x10000x256 .f32) (main_arg1 : IVec S160000x2 32) (main_arg2 : FVec F S64x256 .f32) (main_arg3 : FVec F S64x256 .f32) : IVec S_ 1 :=
  let main_c : IVec S_ 32 := constantI S_ 32 0#32
  let main_v0 : IVec S160000x2 32 := broadcastInDim S160000x2 ![] bcast_S_S160000x2 main_c
  let main_v1 : IVec S160000x2 1 := cmpi .sge main_arg1 main_v0
  let main_c_0 : IVec S_ 32 := constantI S_ 32 10000#32
  let main_v2 : IVec S160000x2 32 := broadcastInDim S160000x2 ![] bcast_S_S160000x2 main_c_0
  let main_v3 : IVec S160000x2 1 := cmpi .slt main_arg1 main_v2
  let main_v4 : IVec S160000x2 1 := andi main_v1 main_v3
  let main_c_1 : IVec S_ 1 := constantI S_ 1 1#1
  let main_v5 : IVec S_ 1 := (fun x v => Host.reduce IntOp.andi x v reducesTo_S160000x2_S_d0_1 h_S_) main_v4 main_c_1
  main_v5
-- ==== Kernel.lean ====
abbrev S8x10000x256 : Shape := ⟨3, ![8, 10000, 256]⟩
abbrev S160000x2 : Shape := ⟨2, ![160000, 2]⟩
abbrev S64x256 : Shape := ⟨2, ![64, 256]⟩
abbrev S160000x1 : Shape := ⟨2, ![160000, 1]⟩
abbrev S160000 : Shape := ⟨1, ![160000]⟩
abbrev S32x160x128 : Shape := ⟨3, ![32, 160, 128]⟩
abbrev S10000 : Shape := ⟨1, ![10000]⟩
abbrev S160x128 : Shape := ⟨2, ![160, 128]⟩
abbrev S_ : Shape := ⟨0, ![]⟩
abbrev S16 : Shape := ⟨1, ![16]⟩
abbrev S1x16 : Shape := ⟨2, ![1, 16]⟩
abbrev S1x160x128 : Shape := ⟨3, ![1, 160, 128]⟩
abbrev S32x8x128 : Shape := ⟨3, ![32, 8, 128]⟩
abbrev S8x1024x256 : Shape := ⟨3, ![8, 1024, 256]⟩
abbrev S8x128 : Shape := ⟨2, ![8, 128]⟩
abbrev S64x128 : Shape := ⟨2, ![64, 128]⟩
abbrev S1x128 : Shape := ⟨2, ![1, 128]⟩
abbrev S128x256 : Shape := ⟨2, ![128, 256]⟩
abbrev S1024x256 : Shape := ⟨2, ![1024, 256]⟩
abbrev S1024x1 : Shape := ⟨2, ![1024, 1]⟩
abbrev S1x1024x256 : Shape := ⟨3, ![1, 1024, 256]⟩

abbrev nBuf : Table → Nat
  | .hbm => 10
  | .local .tc .vmem => 10
  | .local .scVector .vmem => 2
  | _ => 0

abbrev bufTy : (tb : Table) → Fin (nBuf tb) → BufTy
  | .hbm, ⟨0, _⟩ => ⟨S8x10000x256, .f32⟩
  | .hbm, ⟨1, _⟩ => ⟨S160000x2, .i32⟩
  | .hbm, ⟨2, _⟩ => ⟨S64x256, .f32⟩
  | .hbm, ⟨3, _⟩ => ⟨S64x256, .f32⟩
  | .hbm, ⟨4, _⟩ => ⟨S160000x1, .i32⟩
  | .hbm, ⟨5, _⟩ => ⟨S160000, .i32⟩
  | .hbm, ⟨6, _⟩ => ⟨S160000x1, .i32⟩
  | .hbm, ⟨7, _⟩ => ⟨S160000, .i32⟩
  | .hbm, ⟨8, _⟩ => ⟨S32x160x128, .i32⟩
  | .hbm, ⟨9, _⟩ => ⟨S8x10000x256, .f32⟩
  | .local .tc .vmem, ⟨0, _⟩ => ⟨S32x8x128, .i32⟩
  | .local .tc .vmem, ⟨1, _⟩ => ⟨S32x8x128, .i32⟩
  | .local .tc .vmem, ⟨2, _⟩ => ⟨S32x8x128, .i32⟩
  | .local .tc .vmem, ⟨3, _⟩ => ⟨S32x8x128, .i32⟩
  | .local .tc .vmem, ⟨4, _⟩ => ⟨S64x256, .f32⟩
  | .local .tc .vmem, ⟨5, _⟩ => ⟨S64x256, .f32⟩
  | .local .tc .vmem, ⟨6, _⟩ => ⟨S8x1024x256, .f32⟩
  | .local .tc .vmem, ⟨7, _⟩ => ⟨S8x1024x256, .f32⟩
  | .local .tc .vmem, ⟨8, _⟩ => ⟨S8x1024x256, .f32⟩
  | .local .tc .vmem, ⟨9, _⟩ => ⟨S8x1024x256, .f32⟩
  | .local .scVector .vmem, ⟨0, _⟩ => ⟨S10000, .i32⟩
  | .local .scVector .vmem, ⟨1, _⟩ => ⟨S160x128, .i32⟩
  | _, _ => ⟨S8x10000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v1_scv : Ref sig .scVector := ⟨.hbm, 5, rfl⟩
abbrev main_v3_scv : Ref sig .scVector := ⟨.hbm, 7, rfl⟩
abbrev main_v4_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg4_1 : Ref sig .tc := ⟨.vmem, 7, rfl⟩
abbrev cc1_stg5_0 : Ref sig .tc := ⟨.vmem, 8, rfl⟩
abbrev cc1_stg5_1 : Ref sig .tc := ⟨.vmem, 9, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c0_i32_10 : BitVec 32 := 0#32
  let v30 : BitVec 1 := Scalar.cmpi .eq v18 c0_i32_10
  let v31 : BitVec 32 := Scalar.extui v30
  let c0_i32_11 : BitVec 32 := 0#32
  let v32 : BitVec 1 := Scalar.cmpi .ne v31 c0_i32_11
  v32

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c10000_i32 : BitVec 32 := 10000#32
  let v29 : BitVec 32 := Scalar.muli v28 c10000_i32
  ![v29.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c1_i32_12 : BitVec 32 := 1#32
  let v33 : BitVec 1 := Scalar.cmpi .eq v18 c1_i32_12
  let v34 : BitVec 32 := Scalar.extui v33
  let c0_i32_13 : BitVec 32 := 0#32
  let v35 : BitVec 1 := Scalar.cmpi .ne v34 c0_i32_13
  v35

def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c10000_i32 : BitVec 32 := 10000#32
  let v29 : BitVec 32 := Scalar.muli v28 c10000_i32
  ![v29.toNat]
@[reducible] def k0_t1_loop : Scf.Loop 32 :=
  let c0_i32_16 : BitVec 32 := 0#32
  let c160_i32 : BitVec 32 := 160#32
  let v37 : BitVec 32 := Scalar.addi c0_i32_16 c160_i32
  let c1_i32_17 : BitVec 32 := 1#32
  ⟨c0_i32_16, v37, c1_i32_17⟩
def k0_off3 (k0_t1 : Fin k0_t1_loop.trips) : Fin 2 → Nat :=
  let c0_i32_16 : BitVec 32 := 0#32
  let c1_i32_17 : BitVec 32 := 1#32
  let arg8 : BitVec 32 := Scf.iv c0_i32_16 c1_i32_17 k0_t1
  let v43 : Index := Scalar.indexCast arg8
  let c0 : Index := 0#32
  ![v43.toNat, 0]
def k0_off4 (k0_t1 : Fin k0_t1_loop.trips) : Fin 2 → Nat :=
  let c0_i32_16 : BitVec 32 := 0#32
  let c1_i32_17 : BitVec 32 := 1#32
  let arg8 : BitVec 32 := Scf.iv c0_i32_16 c1_i32_17 k0_t1
  let v45 : Index := Scalar.indexCast arg8
  let c16 : Index := 16#32
  ![v45.toNat, 16]
def k0_off5 (k0_t1 : Fin k0_t1_loop.trips) : Fin 2 → Nat :=
  let c0_i32_16 : BitVec 32 := 0#32
  let c1_i32_17 : BitVec 32 := 1#32
  let arg8 : BitVec 32 := Scf.iv c0_i32_16 c1_i32_17 k0_t1
  let v47 : Index := Scalar.indexCast arg8
  let c32 : Index := 32#32
  ![v47.toNat, 32]
def k0_off6 (k0_t1 : Fin k0_t1_loop.trips) : Fin 2 → Nat :=
  let c0_i32_16 : BitVec 32 := 0#32
  let c1_i32_17 : BitVec 32 := 1#32
  let arg8 : BitVec 32 := Scf.iv c0_i32_16 c1_i32_17 k0_t1
  let v49 : Index := Scalar.indexCast arg8
  let c48 : Index := 48#32
  ![v49.toNat, 48]
def k0_off7 (k0_t1 : Fin k0_t1_loop.trips) : Fin 2 → Nat :=
  let c0_i32_16 : BitVec 32 := 0#32
  let c1_i32_17 : BitVec 32 := 1#32
  let arg8 : BitVec 32 := Scf.iv c0_i32_16 c1_i32_17 k0_t1
  let v51 : Index := Scalar.indexCast arg8
  let c64 : Index := 64#32
  ![v51.toNat, 64]
def k0_off8 (k0_t1 : Fin k0_t1_loop.trips) : Fin 2 → Nat :=
  let c0_i32_16 : BitVec 32 := 0#32
  let c1_i32_17 : BitVec 32 := 1#32
  let arg8 : BitVec 32 := Scf.iv c0_i32_16 c1_i32_17 k0_t1
  let v53 : Index := Scalar.indexCast arg8
  let c80 : Index := 80#32
  ![v53.toNat, 80]
def k0_off9 (k0_t1 : Fin k0_t1_loop.trips) : Fin 2 → Nat :=
  let c0_i32_16 : BitVec 32 := 0#32
  let c1_i32_17 : BitVec 32 := 1#32
  let arg8 : BitVec 32 := Scf.iv c0_i32_16 c1_i32_17 k0_t1
  let v55 : Index := Scalar.indexCast arg8
  let c96 : Index := 96#32
  ![v55.toNat, 96]
def k0_off10 (k0_t1 : Fin k0_t1_loop.trips) : Fin 2 → Nat :=
  let c0_i32_16 : BitVec 32 := 0#32
  let c1_i32_17 : BitVec 32 := 1#32
  let arg8 : BitVec 32 := Scf.iv c0_i32_16 c1_i32_17 k0_t1
  let v57 : Index := Scalar.indexCast arg8
  let c112 : Index := 112#32
  ![v57.toNat, 112]
def k0_off11 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c10000_i32 : BitVec 32 := 10000#32
  let v29 : BitVec 32 := Scalar.muli v28 c10000_i32
  ![v29.toNat]
@[reducible] def k0_t2_loop : Scf.Loop 32 :=
  let c0_i32_21 : BitVec 32 := 0#32
  let c5_i32 : BitVec 32 := 5#32
  let v42 : BitVec 32 := Scalar.addi c0_i32_21 c5_i32
  let c1_i32_22 : BitVec 32 := 1#32
  ⟨c0_i32_21, v42, c1_i32_22⟩
def k0_off12 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32 : BitVec 32 := 125#32
  let v43 : BitVec 32 := Scalar.muli arg8 c125_i32
  let c0_i32_24 : BitVec 32 := 0#32
  let v44 : BitVec 32 := Scalar.addi v43 c0_i32_24
  let c16_i32_25 : BitVec 32 := 16#32
  let v45 : BitVec 32 := Scalar.muli v44 c16_i32_25
  let v46 : Index := Scalar.indexCast v45
  ![v46.toNat]

def k0_chk1 (v51 : IVec S16 32) (v53 : IVec S16 32) : Prop :=
  (∀ a x, ((![v51, v53] : Fin 2 → IVec S16 32) a x).toNat < S160x128.size a)
theorem k0_idx1_inb : ∀ (v51 : IVec S16 32) (v53 : IVec S16 32) (k0_hw1 : k0_chk1 v51 v53), ∀ a x, ((![v51, v53] : Fin 2 → IVec S16 32) a x).toNat < S160x128.size a := fun v51 v53 k0_hw1 => k0_hw1
def k0_off13 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_26 : BitVec 32 := 125#32
  let v54 : BitVec 32 := Scalar.muli arg8 c125_i32_26
  let c1_i32_27 : BitVec 32 := 1#32
  let v55 : BitVec 32 := Scalar.addi v54 c1_i32_27
  let c16_i32_28 : BitVec 32 := 16#32
  let v56 : BitVec 32 := Scalar.muli v55 c16_i32_28
  let v57 : Index := Scalar.indexCast v56
  ![v57.toNat]

def k0_chk2 (v62 : IVec S16 32) (v64 : IVec S16 32) : Prop :=
  (∀ a x, ((![v62, v64] : Fin 2 → IVec S16 32) a x).toNat < S160x128.size a)
theorem k0_idx2_inb : ∀ (v62 : IVec S16 32) (v64 : IVec S16 32) (k0_hw2 : k0_chk2 v62 v64), ∀ a x, ((![v62, v64] : Fin 2 → IVec S16 32) a x).toNat < S160x128.size a := fun v62 v64 k0_hw2 => k0_hw2
def k0_off14 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_31 : BitVec 32 := 125#32
  let v65 : BitVec 32 := Scalar.muli arg8 c125_i32_31
  let c2_i32_32 : BitVec 32 := 2#32
  let v66 : BitVec 32 := Scalar.addi v65 c2_i32_32
  let c16_i32_33 : BitVec 32 := 16#32
  let v67 : BitVec 32 := Scalar.muli v66 c16_i32_33
  let v68 : Index := Scalar.indexCast v67
  ![v68.toNat]

def k0_chk3 (v73 : IVec S16 32) (v75 : IVec S16 32) : Prop :=
  (∀ a x, ((![v73, v75] : Fin 2 → IVec S16 32) a x).toNat < S160x128.size a)
theorem k0_idx3_inb : ∀ (v73 : IVec S16 32) (v75 : IVec S16 32) (k0_hw3 : k0_chk3 v73 v75), ∀ a x, ((![v73, v75] : Fin 2 → IVec S16 32) a x).toNat < S160x128.size a := fun v73 v75 k0_hw3 => k0_hw3
def k0_off15 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_36 : BitVec 32 := 125#32
  let v76 : BitVec 32 := Scalar.muli arg8 c125_i32_36
  let c3_i32 : BitVec 32 := 3#32
  let v77 : BitVec 32 := Scalar.addi v76 c3_i32
  let c16_i32_37 : BitVec 32 := 16#32
  let v78 : BitVec 32 := Scalar.muli v77 c16_i32_37
  let v79 : Index := Scalar.indexCast v78
  ![v79.toNat]

def k0_chk4 (v84 : IVec S16 32) (v86 : IVec S16 32) : Prop :=
  (∀ a x, ((![v84, v86] : Fin 2 → IVec S16 32) a x).toNat < S160x128.size a)
theorem k0_idx4_inb : ∀ (v84 : IVec S16 32) (v86 : IVec S16 32) (k0_hw4 : k0_chk4 v84 v86), ∀ a x, ((![v84, v86] : Fin 2 → IVec S16 32) a x).toNat < S160x128.size a := fun v84 v86 k0_hw4 => k0_hw4
def k0_off16 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_40 : BitVec 32 := 125#32
  let v87 : BitVec 32 := Scalar.muli arg8 c125_i32_40
  let c4_i32 : BitVec 32 := 4#32
  let v88 : BitVec 32 := Scalar.addi v87 c4_i32
  let c16_i32_41 : BitVec 32 := 16#32
  let v89 : BitVec 32 := Scalar.muli v88 c16_i32_41
  let v90 : Index := Scalar.indexCast v89
  ![v90.toNat]

def k0_chk5 (v95 : IVec S16 32) (v97 : IVec S16 32) : Prop :=
  (∀ a x, ((![v95, v97] : Fin 2 → IVec S16 32) a x).toNat < S160x128.size a)
theorem k0_idx5_inb : ∀ (v95 : IVec S16 32) (v97 : IVec S16 32) (k0_hw5 : k0_chk5 v95 v97), ∀ a x, ((![v95, v97] : Fin 2 → IVec S16 32) a x).toNat < S160x128.size a := fun v95 v97 k0_hw5 => k0_hw5
def k0_off17 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_44 : BitVec 32 := 125#32
  let v98 : BitVec 32 := Scalar.muli arg8 c125_i32_44
  let c5_i32_45 : BitVec 32 := 5#32
  let v99 : BitVec 32 := Scalar.addi v98 c5_i32_45
  let c16_i32_46 : BitVec 32 := 16#32
  let v100 : BitVec 32 := Scalar.muli v99 c16_i32_46
  let v101 : Index := Scalar.indexCast v100
  ![v101.toNat]

def k0_chk6 (v106 : IVec S16 32) (v108 : IVec S16 32) : Prop :=
  (∀ a x, ((![v106, v108] : Fin 2 → IVec S16 32) a x).toNat < S160x128.size a)
theorem k0_idx6_inb : ∀ (v106 : IVec S16 32) (v108 : IVec S16 32) (k0_hw6 : k0_chk6 v106 v108), ∀ a x, ((![v106, v108] : Fin 2 → IVec S16 32) a x).toNat < S160x128.size a := fun v106 v108 k0_hw6 => k0_hw6
def k0_off18 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_49 : BitVec 32 := 125#32
  let v109 : BitVec 32 := Scalar.muli arg8 c125_i32_49
  let c6_i32 : BitVec 32 := 6#32
  let v110 : BitVec 32 := Scalar.addi v109 c6_i32
  let c16_i32_50 : BitVec 32 := 16#32
  let v111 : BitVec 32 := Scalar.muli v110 c16_i32_50
  let v112 : Index := Scalar.indexCast v111
  ![v112.toNat]

def k0_chk7 (v117 : IVec S16 32) (v119 : IVec S16 32) : Prop :=
  (∀ a x, ((![v117, v119] : Fin 2 → IVec S16 32) a x).toNat < S160x128.size a)
theorem k0_idx7_inb : ∀ (v117 : IVec S16 32) (v119 : IVec S16 32) (k0_hw7 : k0_chk7 v117 v119), ∀ a x, ((![v117, v119] : Fin 2 → IVec S16 32) a x).toNat < S160x128.size a := fun v117 v119 k0_hw7 => k0_hw7
def k0_off19 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_53 : BitVec 32 := 125#32
  let v120 : BitVec 32 := Scalar.muli arg8 c125_i32_53
  let c7_i32_54 : BitVec 32 := 7#32
  let v121 : BitVec 32 := Scalar.addi v120 c7_i32_54
  let c16_i32_55 : BitVec 32 := 16#32
  let v122 : BitVec 32 := Scalar.muli v121 c16_i32_55
  let v123 : Index := Scalar.indexCast v122
  ![v123.toNat]

def k0_chk8 (v128 : IVec S16 32) (v130 : IVec S16 32) : Prop :=
  (∀ a x, ((![v128, v130] : Fin 2 → IVec S16 32) a x).toNat < S160x128.size a)
theorem k0_idx8_inb : ∀ (v128 : IVec S16 32) (v130 : IVec S16 32) (k0_hw8 : k0_chk8 v128 v130), ∀ a x, ((![v128, v130] : Fin 2 → IVec S16 32) a x).toNat < S160x128.size a := fun v128 v130 k0_hw8 => k0_hw8
def k0_off20 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_58 : BitVec 32 := 125#32
  let v131 : BitVec 32 := Scalar.muli arg8 c125_i32_58
  let c8_i32 : BitVec 32 := 8#32
  let v132 : BitVec 32 := Scalar.addi v131 c8_i32
  let c16_i32_59 : BitVec 32 := 16#32
  let v133 : BitVec 32 := Scalar.muli v132 c16_i32_59
  let v134 : Index := Scalar.indexCast v133
  ![v134.toNat]

def k0_chk9 (v139 : IVec S16 32) (v141 : IVec S16 32) : Prop :=
  (∀ a x, ((![v139, v141] : Fin 2 → IVec S16 32) a x).toNat < S160x128.size a)
theorem k0_idx9_inb : ∀ (v139 : IVec S16 32) (v141 : IVec S16 32) (k0_hw9 : k0_chk9 v139 v141), ∀ a x, ((![v139, v141] : Fin 2 → IVec S16 32) a x).toNat < S160x128.size a := fun v139 v141 k0_hw9 => k0_hw9
def k0_off21 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_62 : BitVec 32 := 125#32
  let v142 : BitVec 32 := Scalar.muli arg8 c125_i32_62
  let c9_i32 : BitVec 32 := 9#32
  let v143 : BitVec 32 := Scalar.addi v142 c9_i32
  let c16_i32_63 : BitVec 32 := 16#32
  let v144 : BitVec 32 := Scalar.muli v143 c16_i32_63
  let v145 : Index := Scalar.indexCast v144
  ![v145.toNat]

def k0_chk10 (v150 : IVec S16 32) (v152 : IVec S16 32) : Prop :=
  (∀ a x, ((![v150, v152] : Fin 2 → IVec S16 32) a x).toNat < S160x128.size a)
theorem k0_idx10_inb : ∀ (v150 : IVec S16 32) (v152 : IVec S16 32) (k0_hw10 : k0_chk10 v150 v152), ∀ a x, ((![v150, v152] : Fin 2 → IVec S16 32) a x).toNat < S160x128.size a := fun v150 v152 k0_hw10 => k0_hw10
def k0_off22 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_66 : BitVec 32 := 125#32
  let v153 : BitVec 32 := Scalar.muli arg8 c125_i32_66
  let c10_i32 : BitVec 32 := 10#32
  let v154 : BitVec 32 := Scalar.addi v153 c10_i32
  let c16_i32_67 : BitVec 32 := 16#32
  let v155 : BitVec 32 := Scalar.muli v154 c16_i32_67
  let v156 : Index := Scalar.indexCast v155
  ![v156.toNat]

def k0_chk11 (v161 : IVec S16 32) (v163 : IVec S16 32) : Prop :=
  (∀ a x, ((![v161, v163] : Fin 2 → IVec S16 32) a x).toNat < S160x128.size a)
theorem k0_idx11_inb : ∀ (v161 : IVec S16 32) (v163 : IVec S16 32) (k0_hw11 : k0_chk11 v161 v163), ∀ a x, ((![v161, v163] : Fin 2 → IVec S16 32) a x).toNat < S160x128.size a := fun v161 v163 k0_hw11 => k0_hw11
def k0_off23 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_70 : BitVec 32 := 125#32
  let v164 : BitVec 32 := Scalar.muli arg8 c125_i32_70
  let c11_i32 : BitVec 32 := 11#32
  let v165 : BitVec 32 := Scalar.addi v164 c11_i32
  let c16_i32_71 : BitVec 32 := 16#32
  let v166 : BitVec 32 := Scalar.muli v165 c16_i32_71
  let v167 : Index := Scalar.indexCast v166
  ![v167.toNat]

def k0_chk12 (v172 : IVec S16 32) (v174 : IVec S16 32) : Prop :=
  (∀ a x, ((![v172, v174] : Fin 2 → IVec S16 32) a x).toNat < S160x128.size a)
theorem k0_idx12_inb : ∀ (v172 : IVec S16 32) (v174 : IVec S16 32) (k0_hw12 : k0_chk12 v172 v174), ∀ a x, ((![v172, v174] : Fin 2 → IVec S16 32) a x).toNat < S160x128.size a := fun v172 v174 k0_hw12 => k0_hw12
def k0_off24 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_74 : BitVec 32 := 125#32
  let v175 : BitVec 32 := Scalar.muli arg8 c125_i32_74
  let c12_i32 : BitVec 32 := 12#32
  let v176 : BitVec 32 := Scalar.addi v175 c12_i32
  let c16_i32_75 : BitVec 32 := 16#32
  let v177 : BitVec 32 := Scalar.muli v176 c16_i32_75
  let v178 : Index := Scalar.indexCast v177
  ![v178.toNat]

def k0_chk13 (v183 : IVec S16 32) (v185 : IVec S16 32) : Prop :=
  (∀ a x, ((![v183, v185] : Fin 2 → IVec S16 32) a x).toNat < S160x128.size a)
theorem k0_idx13_inb : ∀ (v183 : IVec S16 32) (v185 : IVec S16 32) (k0_hw13 : k0_chk13 v183 v185), ∀ a x, ((![v183, v185] : Fin 2 → IVec S16 32) a x).toNat < S160x128.size a := fun v183 v185 k0_hw13 => k0_hw13
def k0_off25 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_78 : BitVec 32 := 125#32
  let v186 : BitVec 32 := Scalar.muli arg8 c125_i32_78
  let c13_i32 : BitVec 32 := 13#32
  let v187 : BitVec 32 := Scalar.addi v186 c13_i32
  let c16_i32_79 : BitVec 32 := 16#32
  let v188 : BitVec 32 := Scalar.muli v187 c16_i32_79
  let v189 : Index := Scalar.indexCast v188
  ![v189.toNat]

def k0_chk14 (v194 : IVec S16 32) (v196 : IVec S16 32) : Prop :=
  (∀ a x, ((![v194, v196] : Fin 2 → IVec S16 32) a x).toNat < S160x128.size a)
theorem k0_idx14_inb : ∀ (v194 : IVec S16 32) (v196 : IVec S16 32) (k0_hw14 : k0_chk14 v194 v196), ∀ a x, ((![v194, v196] : Fin 2 → IVec S16 32) a x).toNat < S160x128.size a := fun v194 v196 k0_hw14 => k0_hw14
def k0_off26 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_82 : BitVec 32 := 125#32
  let v197 : BitVec 32 := Scalar.muli arg8 c125_i32_82
  let c14_i32 : BitVec 32 := 14#32
  let v198 : BitVec 32 := Scalar.addi v197 c14_i32
  let c16_i32_83 : BitVec 32 := 16#32
  let v199 : BitVec 32 := Scalar.muli v198 c16_i32_83
  let v200 : Index := Scalar.indexCast v199
  ![v200.toNat]

def k0_chk15 (v205 : IVec S16 32) (v207 : IVec S16 32) : Prop :=
  (∀ a x, ((![v205, v207] : Fin 2 → IVec S16 32) a x).toNat < S160x128.size a)
theorem k0_idx15_inb : ∀ (v205 : IVec S16 32) (v207 : IVec S16 32) (k0_hw15 : k0_chk15 v205 v207), ∀ a x, ((![v205, v207] : Fin 2 → IVec S16 32) a x).toNat < S160x128.size a := fun v205 v207 k0_hw15 => k0_hw15
def k0_off27 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_86 : BitVec 32 := 125#32
  let v208 : BitVec 32 := Scalar.muli arg8 c125_i32_86
  let c15_i32 : BitVec 32 := 15#32
  let v209 : BitVec 32 := Scalar.addi v208 c15_i32
  let c16_i32_87 : BitVec 32 := 16#32
  let v210 : BitVec 32 := Scalar.muli v209 c16_i32_87
  let v211 : Index := Scalar.indexCast v210
  ![v211.toNat]

def k0_chk16 (v216 : IVec S16 32) (v218 : IVec S16 32) : Prop :=
  (∀ a x, ((![v216, v218] : Fin 2 → IVec S16 32) a x).toNat < S160x128.size a)
theorem k0_idx16_inb : ∀ (v216 : IVec S16 32) (v218 : IVec S16 32) (k0_hw16 : k0_chk16 v216 v218), ∀ a x, ((![v216, v218] : Fin 2 → IVec S16 32) a x).toNat < S160x128.size a := fun v216 v218 k0_hw16 => k0_hw16
def k0_off28 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_90 : BitVec 32 := 125#32
  let v219 : BitVec 32 := Scalar.muli arg8 c125_i32_90
  let c16_i32_91 : BitVec 32 := 16#32
  let v220 : BitVec 32 := Scalar.addi v219 c16_i32_91
  let c16_i32_92 : BitVec 32 := 16#32
  let v221 : BitVec 32 := Scalar.muli v220 c16_i32_92
  let v222 : Index := Scalar.indexCast v221
  ![v222.toNat]

def k0_chk17 (v227 : IVec S16 32) (v229 : IVec S16 32) : Prop :=
  (∀ a x, ((![v227, v229] : Fin 2 → IVec S16 32) a x).toNat < S160x128.size a)
theorem k0_idx17_inb : ∀ (v227 : IVec S16 32) (v229 : IVec S16 32) (k0_hw17 : k0_chk17 v227 v229), ∀ a x, ((![v227, v229] : Fin 2 → IVec S16 32) a x).toNat < S160x128.size a := fun v227 v229 k0_hw17 => k0_hw17
def k0_off29 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_95 : BitVec 32 := 125#32
  let v230 : BitVec 32 := Scalar.muli arg8 c125_i32_95
  let c17_i32 : BitVec 32 := 17#32
  let v231 : BitVec 32 := Scalar.addi v230 c17_i32
  let c16_i32_96 : BitVec 32 := 16#32
  let v232 : BitVec 32 := Scalar.muli v231 c16_i32_96
  let v233 : Index := Scalar.indexCast v232
  ![v233.toNat]

def k0_chk18 (v238 : IVec S16 32) (v240 : IVec S16 32) : Prop :=
  (∀ a x, ((![v238, v240] : Fin 2 → IVec S16 32) a x).toNat < S160x128.size a)
theorem k0_idx18_inb : ∀ (v238 : IVec S16 32) (v240 : IVec S16 32) (k0_hw18 : k0_chk18 v238 v240), ∀ a x, ((![v238, v240] : Fin 2 → IVec S16 32) a x).toNat < S160x128.size a := fun v238 v240 k0_hw18 => k0_hw18
def k0_off30 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_99 : BitVec 32 := 125#32
  let v241 : BitVec 32 := Scalar.muli arg8 c125_i32_99
  let c18_i32 : BitVec 32 := 18#32
  let v242 : BitVec 32 := Scalar.addi v241 c18_i32
  let c16_i32_100 : BitVec 32 := 16#32
  let v243 : BitVec 32 := Scalar.muli v242 c16_i32_100
  let v244 : Index := Scalar.indexCast v243
  ![v244.toNat]

def k0_chk19 (v249 : IVec S16 32) (v251 : IVec S16 32) : Prop :=
  (∀ a x, ((![v249, v251] : Fin 2 → IVec S16 32) a x).toNat < S160x128.size a)
theorem k0_idx19_inb : ∀ (v249 : IVec S16 32) (v251 : IVec S16 32) (k0_hw19 : k0_chk19 v249 v251), ∀ a x, ((![v249, v251] : Fin 2 → IVec S16 32) a x).toNat < S160x128.size a := fun v249 v251 k0_hw19 => k0_hw19
def k0_off31 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_103 : BitVec 32 := 125#32
  let v252 : BitVec 32 := Scalar.muli arg8 c125_i32_103
  let c19_i32 : BitVec 32 := 19#32
  let v253 : BitVec 32 := Scalar.addi v252 c19_i32
  let c16_i32_104 : BitVec 32 := 16#32
  let v254 : BitVec 32 := Scalar.muli v253 c16_i32_104
  let v255 : Index := Scalar.indexCast v254
  ![v255.toNat]

def k0_chk20 (v260 : IVec S16 32) (v262 : IVec S16 32) : Prop :=
  (∀ a x, ((![v260, v262] : Fin 2 → IVec S16 32) a x).toNat < S160x128.size a)
theorem k0_idx20_inb : ∀ (v260 : IVec S16 32) (v262 : IVec S16 32) (k0_hw20 : k0_chk20 v260 v262), ∀ a x, ((![v260, v262] : Fin 2 → IVec S16 32) a x).toNat < S160x128.size a := fun v260 v262 k0_hw20 => k0_hw20
def k0_off32 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_107 : BitVec 32 := 125#32
  let v263 : BitVec 32 := Scalar.muli arg8 c125_i32_107
  let c20_i32 : BitVec 32 := 20#32
  let v264 : BitVec 32 := Scalar.addi v263 c20_i32
  let c16_i32_108 : BitVec 32 := 16#32
  let v265 : BitVec 32 := Scalar.muli v264 c16_i32_108
  let v266 : Index := Scalar.indexCast v265
  ![v266.toNat]

def k0_chk21 (v271 : IVec S16 32) (v273 : IVec S16 32) : Prop :=
  (∀ a x, ((![v271, v273] : Fin 2 → IVec S16 32) a x).toNat < S160x128.size a)
theorem k0_idx21_inb : ∀ (v271 : IVec S16 32) (v273 : IVec S16 32) (k0_hw21 : k0_chk21 v271 v273), ∀ a x, ((![v271, v273] : Fin 2 → IVec S16 32) a x).toNat < S160x128.size a := fun v271 v273 k0_hw21 => k0_hw21
def k0_off33 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_111 : BitVec 32 := 125#32
  let v274 : BitVec 32 := Scalar.muli arg8 c125_i32_111
  let c21_i32 : BitVec 32 := 21#32
  let v275 : BitVec 32 := Scalar.addi v274 c21_i32
  let c16_i32_112 : BitVec 32 := 16#32
  let v276 : BitVec 32 := Scalar.muli v275 c16_i32_112
  let v277 : Index := Scalar.indexCast v276
  ![v277.toNat]

def k0_chk22 (v282 : IVec S16 32) (v284 : IVec S16 32) : Prop :=
  (∀ a x, ((![v282, v284] : Fin 2 → IVec S16 32) a x).toNat < S160x128.size a)
theorem k0_idx22_inb : ∀ (v282 : IVec S16 32) (v284 : IVec S16 32) (k0_hw22 : k0_chk22 v282 v284), ∀ a x, ((![v282, v284] : Fin 2 → IVec S16 32) a x).toNat < S160x128.size a := fun v282 v284 k0_hw22 => k0_hw22
def k0_off34 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_115 : BitVec 32 := 125#32
  let v285 : BitVec 32 := Scalar.muli arg8 c125_i32_115
  let c22_i32 : BitVec 32 := 22#32
  let v286 : BitVec 32 := Scalar.addi v285 c22_i32
  let c16_i32_116 : BitVec 32 := 16#32
  let v287 : BitVec 32 := Scalar.muli v286 c16_i32_116
  let v288 : Index := Scalar.indexCast v287
  ![v288.toNat]

def k0_chk23 (v293 : IVec S16 32) (v295 : IVec S16 32) : Prop :=
  (∀ a x, ((![v293, v295] : Fin 2 → IVec S16 32) a x).toNat < S160x128.size a)
theorem k0_idx23_inb : ∀ (v293 : IVec S16 32) (v295 : IVec S16 32) (k0_hw23 : k0_chk23 v293 v295), ∀ a x, ((![v293, v295] : Fin 2 → IVec S16 32) a x).toNat < S160x128.size a := fun v293 v295 k0_hw23 => k0_hw23
def k0_off35 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_119 : BitVec 32 := 125#32
  let v296 : BitVec 32 := Scalar.muli arg8 c125_i32_119
  let c23_i32 : BitVec 32 := 23#32
  let v297 : BitVec 32 := Scalar.addi v296 c23_i32
  let c16_i32_120 : BitVec 32 := 16#32
  let v298 : BitVec 32 := Scalar.muli v297 c16_i32_120
  let v299 : Index := Scalar.indexCast v298
  ![v299.toNat]

def k0_chk24 (v304 : IVec S16 32) (v306 : IVec S16 32) : Prop :=
  (∀ a x, ((![v304, v306] : Fin 2 → IVec S16 32) a x).toNat < S160x128.size a)
theorem k0_idx24_inb : ∀ (v304 : IVec S16 32) (v306 : IVec S16 32) (k0_hw24 : k0_chk24 v304 v306), ∀ a x, ((![v304, v306] : Fin 2 → IVec S16 32) a x).toNat < S160x128.size a := fun v304 v306 k0_hw24 => k0_hw24
def k0_off36 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_123 : BitVec 32 := 125#32
  let v307 : BitVec 32 := Scalar.muli arg8 c125_i32_123
  let c24_i32 : BitVec 32 := 24#32
  let v308 : BitVec 32 := Scalar.addi v307 c24_i32
  let c16_i32_124 : BitVec 32 := 16#32
  let v309 : BitVec 32 := Scalar.muli v308 c16_i32_124
  let v310 : Index := Scalar.indexCast v309
  ![v310.toNat]

def k0_chk25 (v315 : IVec S16 32) (v317 : IVec S16 32) : Prop :=
  (∀ a x, ((![v315, v317] : Fin 2 → IVec S16 32) a x).toNat < S160x128.size a)
theorem k0_idx25_inb : ∀ (v315 : IVec S16 32) (v317 : IVec S16 32) (k0_hw25 : k0_chk25 v315 v317), ∀ a x, ((![v315, v317] : Fin 2 → IVec S16 32) a x).toNat < S160x128.size a := fun v315 v317 k0_hw25 => k0_hw25
def k0_off37 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_127 : BitVec 32 := 125#32
  let v318 : BitVec 32 := Scalar.muli arg8 c125_i32_127
  let c25_i32 : BitVec 32 := 25#32
  let v319 : BitVec 32 := Scalar.addi v318 c25_i32
  let c16_i32_128 : BitVec 32 := 16#32
  let v320 : BitVec 32 := Scalar.muli v319 c16_i32_128
  let v321 : Index := Scalar.indexCast v320
  ![v321.toNat]

def k0_chk26 (v326 : IVec S16 32) (v328 : IVec S16 32) : Prop :=
  (∀ a x, ((![v326, v328] : Fin 2 → IVec S16 32) a x).toNat < S160x128.size a)
theorem k0_idx26_inb : ∀ (v326 : IVec S16 32) (v328 : IVec S16 32) (k0_hw26 : k0_chk26 v326 v328), ∀ a x, ((![v326, v328] : Fin 2 → IVec S16 32) a x).toNat < S160x128.size a := fun v326 v328 k0_hw26 => k0_hw26
def k0_off38 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_131 : BitVec 32 := 125#32
  let v329 : BitVec 32 := Scalar.muli arg8 c125_i32_131
  let c26_i32 : BitVec 32 := 26#32
  let v330 : BitVec 32 := Scalar.addi v329 c26_i32
  let c16_i32_132 : BitVec 32 := 16#32
  let v331 : BitVec 32 := Scalar.muli v330 c16_i32_132
  let v332 : Index := Scalar.indexCast v331
  ![v332.toNat]

def k0_chk27 (v337 : IVec S16 32) (v339 : IVec S16 32) : Prop :=
  (∀ a x, ((![v337, v339] : Fin 2 → IVec S16 32) a x).toNat < S160x128.size a)
theorem k0_idx27_inb : ∀ (v337 : IVec S16 32) (v339 : IVec S16 32) (k0_hw27 : k0_chk27 v337 v339), ∀ a x, ((![v337, v339] : Fin 2 → IVec S16 32) a x).toNat < S160x128.size a := fun v337 v339 k0_hw27 => k0_hw27
def k0_off39 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_135 : BitVec 32 := 125#32
  let v340 : BitVec 32 := Scalar.muli arg8 c125_i32_135
  let c27_i32 : BitVec 32 := 27#32
  let v341 : BitVec 32 := Scalar.addi v340 c27_i32
  let c16_i32_136 : BitVec 32 := 16#32
  let v342 : BitVec 32 := Scalar.muli v341 c16_i32_136
  let v343 : Index := Scalar.indexCast v342
  ![v343.toNat]

def k0_chk28 (v348 : IVec S16 32) (v350 : IVec S16 32) : Prop :=
  (∀ a x, ((![v348, v350] : Fin 2 → IVec S16 32) a x).toNat < S160x128.size a)
theorem k0_idx28_inb : ∀ (v348 : IVec S16 32) (v350 : IVec S16 32) (k0_hw28 : k0_chk28 v348 v350), ∀ a x, ((![v348, v350] : Fin 2 → IVec S16 32) a x).toNat < S160x128.size a := fun v348 v350 k0_hw28 => k0_hw28
def k0_off40 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_139 : BitVec 32 := 125#32
  let v351 : BitVec 32 := Scalar.muli arg8 c125_i32_139
  let c28_i32 : BitVec 32 := 28#32
  let v352 : BitVec 32 := Scalar.addi v351 c28_i32
  let c16_i32_140 : BitVec 32 := 16#32
  let v353 : BitVec 32 := Scalar.muli v352 c16_i32_140
  let v354 : Index := Scalar.indexCast v353
  ![v354.toNat]

def k0_chk29 (v359 : IVec S16 32) (v361 : IVec S16 32) : Prop :=
  (∀ a x, ((![v359, v361] : Fin 2 → IVec S16 32) a x).toNat < S160x128.size a)
theorem k0_idx29_inb : ∀ (v359 : IVec S16 32) (v361 : IVec S16 32) (k0_hw29 : k0_chk29 v359 v361), ∀ a x, ((![v359, v361] : Fin 2 → IVec S16 32) a x).toNat < S160x128.size a := fun v359 v361 k0_hw29 => k0_hw29
def k0_off41 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_143 : BitVec 32 := 125#32
  let v362 : BitVec 32 := Scalar.muli arg8 c125_i32_143
  let c29_i32 : BitVec 32 := 29#32
  let v363 : BitVec 32 := Scalar.addi v362 c29_i32
  let c16_i32_144 : BitVec 32 := 16#32
  let v364 : BitVec 32 := Scalar.muli v363 c16_i32_144
  let v365 : Index := Scalar.indexCast v364
  ![v365.toNat]

def k0_chk30 (v370 : IVec S16 32) (v372 : IVec S16 32) : Prop :=
  (∀ a x, ((![v370, v372] : Fin 2 → IVec S16 32) a x).toNat < S160x128.size a)
theorem k0_idx30_inb : ∀ (v370 : IVec S16 32) (v372 : IVec S16 32) (k0_hw30 : k0_chk30 v370 v372), ∀ a x, ((![v370, v372] : Fin 2 → IVec S16 32) a x).toNat < S160x128.size a := fun v370 v372 k0_hw30 => k0_hw30
def k0_off42 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_147 : BitVec 32 := 125#32
  let v373 : BitVec 32 := Scalar.muli arg8 c125_i32_147
  let c30_i32 : BitVec 32 := 30#32
  let v374 : BitVec 32 := Scalar.addi v373 c30_i32
  let c16_i32_148 : BitVec 32 := 16#32
  let v375 : BitVec 32 := Scalar.muli v374 c16_i32_148
  let v376 : Index := Scalar.indexCast v375
  ![v376.toNat]

def k0_chk31 (v381 : IVec S16 32) (v383 : IVec S16 32) : Prop :=
  (∀ a x, ((![v381, v383] : Fin 2 → IVec S16 32) a x).toNat < S160x128.size a)
theorem k0_idx31_inb : ∀ (v381 : IVec S16 32) (v383 : IVec S16 32) (k0_hw31 : k0_chk31 v381 v383), ∀ a x, ((![v381, v383] : Fin 2 → IVec S16 32) a x).toNat < S160x128.size a := fun v381 v383 k0_hw31 => k0_hw31
def k0_off43 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_151 : BitVec 32 := 125#32
  let v384 : BitVec 32 := Scalar.muli arg8 c125_i32_151
  let c31_i32 : BitVec 32 := 31#32
  let v385 : BitVec 32 := Scalar.addi v384 c31_i32
  let c16_i32_152 : BitVec 32 := 16#32
  let v386 : BitVec 32 := Scalar.muli v385 c16_i32_152
  let v387 : Index := Scalar.indexCast v386
  ![v387.toNat]

def k0_chk32 (v392 : IVec S16 32) (v394 : IVec S16 32) : Prop :=
  (∀ a x, ((![v392, v394] : Fin 2 → IVec S16 32) a x).toNat < S160x128.size a)
theorem k0_idx32_inb : ∀ (v392 : IVec S16 32) (v394 : IVec S16 32) (k0_hw32 : k0_chk32 v392 v394), ∀ a x, ((![v392, v394] : Fin 2 → IVec S16 32) a x).toNat < S160x128.size a := fun v392 v394 k0_hw32 => k0_hw32
def k0_off44 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_155 : BitVec 32 := 125#32
  let v395 : BitVec 32 := Scalar.muli arg8 c125_i32_155
  let c32_i32 : BitVec 32 := 32#32
  let v396 : BitVec 32 := Scalar.addi v395 c32_i32
  let c16_i32_156 : BitVec 32 := 16#32
  let v397 : BitVec 32 := Scalar.muli v396 c16_i32_156
  let v398 : Index := Scalar.indexCast v397
  ![v398.toNat]

def k0_chk33 (v403 : IVec S16 32) (v405 : IVec S16 32) : Prop :=
  (∀ a x, ((![v403, v405] : Fin 2 → IVec S16 32) a x).toNat < S160x128.size a)
theorem k0_idx33_inb : ∀ (v403 : IVec S16 32) (v405 : IVec S16 32) (k0_hw33 : k0_chk33 v403 v405), ∀ a x, ((![v403, v405] : Fin 2 → IVec S16 32) a x).toNat < S160x128.size a := fun v403 v405 k0_hw33 => k0_hw33
def k0_off45 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_159 : BitVec 32 := 125#32
  let v406 : BitVec 32 := Scalar.muli arg8 c125_i32_159
  let c33_i32 : BitVec 32 := 33#32
  let v407 : BitVec 32 := Scalar.addi v406 c33_i32
  let c16_i32_160 : BitVec 32 := 16#32
  let v408 : BitVec 32 := Scalar.muli v407 c16_i32_160
  let v409 : Index := Scalar.indexCast v408
  ![v409.toNat]

def k0_chk34 (v414 : IVec S16 32) (v416 : IVec S16 32) : Prop :=
  (∀ a x, ((![v414, v416] : Fin 2 → IVec S16 32) a x).toNat < S160x128.size a)
theorem k0_idx34_inb : ∀ (v414 : IVec S16 32) (v416 : IVec S16 32) (k0_hw34 : k0_chk34 v414 v416), ∀ a x, ((![v414, v416] : Fin 2 → IVec S16 32) a x).toNat < S160x128.size a := fun v414 v416 k0_hw34 => k0_hw34
def k0_off46 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_163 : BitVec 32 := 125#32
  let v417 : BitVec 32 := Scalar.muli arg8 c125_i32_163
  let c34_i32 : BitVec 32 := 34#32
  let v418 : BitVec 32 := Scalar.addi v417 c34_i32
  let c16_i32_164 : BitVec 32 := 16#32
  let v419 : BitVec 32 := Scalar.muli v418 c16_i32_164
  let v420 : Index := Scalar.indexCast v419
  ![v420.toNat]

def k0_chk35 (v425 : IVec S16 32) (v427 : IVec S16 32) : Prop :=
  (∀ a x, ((![v425, v427] : Fin 2 → IVec S16 32) a x).toNat < S160x128.size a)
theorem k0_idx35_inb : ∀ (v425 : IVec S16 32) (v427 : IVec S16 32) (k0_hw35 : k0_chk35 v425 v427), ∀ a x, ((![v425, v427] : Fin 2 → IVec S16 32) a x).toNat < S160x128.size a := fun v425 v427 k0_hw35 => k0_hw35
def k0_off47 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_167 : BitVec 32 := 125#32
  let v428 : BitVec 32 := Scalar.muli arg8 c125_i32_167
  let c35_i32 : BitVec 32 := 35#32
  let v429 : BitVec 32 := Scalar.addi v428 c35_i32
  let c16_i32_168 : BitVec 32 := 16#32
  let v430 : BitVec 32 := Scalar.muli v429 c16_i32_168
  let v431 : Index := Scalar.indexCast v430
  ![v431.toNat]

def k0_chk36 (v436 : IVec S16 32) (v438 : IVec S16 32) : Prop :=
  (∀ a x, ((![v436, v438] : Fin 2 → IVec S16 32) a x).toNat < S160x128.size a)
theorem k0_idx36_inb : ∀ (v436 : IVec S16 32) (v438 : IVec S16 32) (k0_hw36 : k0_chk36 v436 v438), ∀ a x, ((![v436, v438] : Fin 2 → IVec S16 32) a x).toNat < S160x128.size a := fun v436 v438 k0_hw36 => k0_hw36
def k0_off48 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_171 : BitVec 32 := 125#32
  let v439 : BitVec 32 := Scalar.muli arg8 c125_i32_171
  let c36_i32 : BitVec 32 := 36#32
  let v440 : BitVec 32 := Scalar.addi v439 c36_i32
  let c16_i32_172 : BitVec 32 := 16#32
  let v441 : BitVec 32 := Scalar.muli v440 c16_i32_172
  let v442 : Index := Scalar.indexCast v441
  ![v442.toNat]

def k0_chk37 (v447 : IVec S16 32) (v449 : IVec S16 32) : Prop :=
  (∀ a x, ((![v447, v449] : Fin 2 → IVec S16 32) a x).toNat < S160x128.size a)
theorem k0_idx37_inb : ∀ (v447 : IVec S16 32) (v449 : IVec S16 32) (k0_hw37 : k0_chk37 v447 v449), ∀ a x, ((![v447, v449] : Fin 2 → IVec S16 32) a x).toNat < S160x128.size a := fun v447 v449 k0_hw37 => k0_hw37
def k0_off49 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_175 : BitVec 32 := 125#32
  let v450 : BitVec 32 := Scalar.muli arg8 c125_i32_175
  let c37_i32 : BitVec 32 := 37#32
  let v451 : BitVec 32 := Scalar.addi v450 c37_i32
  let c16_i32_176 : BitVec 32 := 16#32
  let v452 : BitVec 32 := Scalar.muli v451 c16_i32_176
  let v453 : Index := Scalar.indexCast v452
  ![v453.toNat]

def k0_chk38 (v458 : IVec S16 32) (v460 : IVec S16 32) : Prop :=
  (∀ a x, ((![v458, v460] : Fin 2 → IVec S16 32) a x).toNat < S160x128.size a)
theorem k0_idx38_inb : ∀ (v458 : IVec S16 32) (v460 : IVec S16 32) (k0_hw38 : k0_chk38 v458 v460), ∀ a x, ((![v458, v460] : Fin 2 → IVec S16 32) a x).toNat < S160x128.size a := fun v458 v460 k0_hw38 => k0_hw38
def k0_off50 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_179 : BitVec 32 := 125#32
  let v461 : BitVec 32 := Scalar.muli arg8 c125_i32_179
  let c38_i32 : BitVec 32 := 38#32
  let v462 : BitVec 32 := Scalar.addi v461 c38_i32
  let c16_i32_180 : BitVec 32 := 16#32
  let v463 : BitVec 32 := Scalar.muli v462 c16_i32_180
  let v464 : Index := Scalar.indexCast v463
  ![v464.toNat]

def k0_chk39 (v469 : IVec S16 32) (v471 : IVec S16 32) : Prop :=
  (∀ a x, ((![v469, v471] : Fin 2 → IVec S16 32) a x).toNat < S160x128.size a)
theorem k0_idx39_inb : ∀ (v469 : IVec S16 32) (v471 : IVec S16 32) (k0_hw39 : k0_chk39 v469 v471), ∀ a x, ((![v469, v471] : Fin 2 → IVec S16 32) a x).toNat < S160x128.size a := fun v469 v471 k0_hw39 => k0_hw39
def k0_off51 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_183 : BitVec 32 := 125#32
  let v472 : BitVec 32 := Scalar.muli arg8 c125_i32_183
  let c39_i32 : BitVec 32 := 39#32
  let v473 : BitVec 32 := Scalar.addi v472 c39_i32
  let c16_i32_184 : BitVec 32 := 16#32
  let v474 : BitVec 32 := Scalar.muli v473 c16_i32_184
  let v475 : Index := Scalar.indexCast v474
  ![v475.toNat]

def k0_chk40 (v480 : IVec S16 32) (v482 : IVec S16 32) : Prop :=
  (∀ a x, ((![v480, v482] : Fin 2 → IVec S16 32) a x).toNat < S160x128.size a)
theorem k0_idx40_inb : ∀ (v480 : IVec S16 32) (v482 : IVec S16 32) (k0_hw40 : k0_chk40 v480 v482), ∀ a x, ((![v480, v482] : Fin 2 → IVec S16 32) a x).toNat < S160x128.size a := fun v480 v482 k0_hw40 => k0_hw40
def k0_off52 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_187 : BitVec 32 := 125#32
  let v483 : BitVec 32 := Scalar.muli arg8 c125_i32_187
  let c40_i32 : BitVec 32 := 40#32
  let v484 : BitVec 32 := Scalar.addi v483 c40_i32
  let c16_i32_188 : BitVec 32 := 16#32
  let v485 : BitVec 32 := Scalar.muli v484 c16_i32_188
  let v486 : Index := Scalar.indexCast v485
  ![v486.toNat]

def k0_chk41 (v491 : IVec S16 32) (v493 : IVec S16 32) : Prop :=
  (∀ a x, ((![v491, v493] : Fin 2 → IVec S16 32) a x).toNat < S160x128.size a)
theorem k0_idx41_inb : ∀ (v491 : IVec S16 32) (v493 : IVec S16 32) (k0_hw41 : k0_chk41 v491 v493), ∀ a x, ((![v491, v493] : Fin 2 → IVec S16 32) a x).toNat < S160x128.size a := fun v491 v493 k0_hw41 => k0_hw41
def k0_off53 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_191 : BitVec 32 := 125#32
  let v494 : BitVec 32 := Scalar.muli arg8 c125_i32_191
  let c41_i32 : BitVec 32 := 41#32
  let v495 : BitVec 32 := Scalar.addi v494 c41_i32
  let c16_i32_192 : BitVec 32 := 16#32
  let v496 : BitVec 32 := Scalar.muli v495 c16_i32_192
  let v497 : Index := Scalar.indexCast v496
  ![v497.toNat]

def k0_chk42 (v502 : IVec S16 32) (v504 : IVec S16 32) : Prop :=
  (∀ a x, ((![v502, v504] : Fin 2 → IVec S16 32) a x).toNat < S160x128.size a)
theorem k0_idx42_inb : ∀ (v502 : IVec S16 32) (v504 : IVec S16 32) (k0_hw42 : k0_chk42 v502 v504), ∀ a x, ((![v502, v504] : Fin 2 → IVec S16 32) a x).toNat < S160x128.size a := fun v502 v504 k0_hw42 => k0_hw42
def k0_off54 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_195 : BitVec 32 := 125#32
  let v505 : BitVec 32 := Scalar.muli arg8 c125_i32_195
  let c42_i32 : BitVec 32 := 42#32
  let v506 : BitVec 32 := Scalar.addi v505 c42_i32
  let c16_i32_196 : BitVec 32 := 16#32
  let v507 : BitVec 32 := Scalar.muli v506 c16_i32_196
  let v508 : Index := Scalar.indexCast v507
  ![v508.toNat]

def k0_chk43 (v513 : IVec S16 32) (v515 : IVec S16 32) : Prop :=
  (∀ a x, ((![v513, v515] : Fin 2 → IVec S16 32) a x).toNat < S160x128.size a)
theorem k0_idx43_inb : ∀ (v513 : IVec S16 32) (v515 : IVec S16 32) (k0_hw43 : k0_chk43 v513 v515), ∀ a x, ((![v513, v515] : Fin 2 → IVec S16 32) a x).toNat < S160x128.size a := fun v513 v515 k0_hw43 => k0_hw43
def k0_off55 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_199 : BitVec 32 := 125#32
  let v516 : BitVec 32 := Scalar.muli arg8 c125_i32_199
  let c43_i32 : BitVec 32 := 43#32
  let v517 : BitVec 32 := Scalar.addi v516 c43_i32
  let c16_i32_200 : BitVec 32 := 16#32
  let v518 : BitVec 32 := Scalar.muli v517 c16_i32_200
  let v519 : Index := Scalar.indexCast v518
  ![v519.toNat]

def k0_chk44 (v524 : IVec S16 32) (v526 : IVec S16 32) : Prop :=
  (∀ a x, ((![v524, v526] : Fin 2 → IVec S16 32) a x).toNat < S160x128.size a)
theorem k0_idx44_inb : ∀ (v524 : IVec S16 32) (v526 : IVec S16 32) (k0_hw44 : k0_chk44 v524 v526), ∀ a x, ((![v524, v526] : Fin 2 → IVec S16 32) a x).toNat < S160x128.size a := fun v524 v526 k0_hw44 => k0_hw44
def k0_off56 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_203 : BitVec 32 := 125#32
  let v527 : BitVec 32 := Scalar.muli arg8 c125_i32_203
  let c44_i32 : BitVec 32 := 44#32
  let v528 : BitVec 32 := Scalar.addi v527 c44_i32
  let c16_i32_204 : BitVec 32 := 16#32
  let v529 : BitVec 32 := Scalar.muli v528 c16_i32_204
  let v530 : Index := Scalar.indexCast v529
  ![v530.toNat]

def k0_chk45 (v535 : IVec S16 32) (v537 : IVec S16 32) : Prop :=
  (∀ a x, ((![v535, v537] : Fin 2 → IVec S16 32) a x).toNat < S160x128.size a)
theorem k0_idx45_inb : ∀ (v535 : IVec S16 32) (v537 : IVec S16 32) (k0_hw45 : k0_chk45 v535 v537), ∀ a x, ((![v535, v537] : Fin 2 → IVec S16 32) a x).toNat < S160x128.size a := fun v535 v537 k0_hw45 => k0_hw45
def k0_off57 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_207 : BitVec 32 := 125#32
  let v538 : BitVec 32 := Scalar.muli arg8 c125_i32_207
  let c45_i32 : BitVec 32 := 45#32
  let v539 : BitVec 32 := Scalar.addi v538 c45_i32
  let c16_i32_208 : BitVec 32 := 16#32
  let v540 : BitVec 32 := Scalar.muli v539 c16_i32_208
  let v541 : Index := Scalar.indexCast v540
  ![v541.toNat]

def k0_chk46 (v546 : IVec S16 32) (v548 : IVec S16 32) : Prop :=
  (∀ a x, ((![v546, v548] : Fin 2 → IVec S16 32) a x).toNat < S160x128.size a)
theorem k0_idx46_inb : ∀ (v546 : IVec S16 32) (v548 : IVec S16 32) (k0_hw46 : k0_chk46 v546 v548), ∀ a x, ((![v546, v548] : Fin 2 → IVec S16 32) a x).toNat < S160x128.size a := fun v546 v548 k0_hw46 => k0_hw46
def k0_off58 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_211 : BitVec 32 := 125#32
  let v549 : BitVec 32 := Scalar.muli arg8 c125_i32_211
  let c46_i32 : BitVec 32 := 46#32
  let v550 : BitVec 32 := Scalar.addi v549 c46_i32
  let c16_i32_212 : BitVec 32 := 16#32
  let v551 : BitVec 32 := Scalar.muli v550 c16_i32_212
  let v552 : Index := Scalar.indexCast v551
  ![v552.toNat]

def k0_chk47 (v557 : IVec S16 32) (v559 : IVec S16 32) : Prop :=
  (∀ a x, ((![v557, v559] : Fin 2 → IVec S16 32) a x).toNat < S160x128.size a)
theorem k0_idx47_inb : ∀ (v557 : IVec S16 32) (v559 : IVec S16 32) (k0_hw47 : k0_chk47 v557 v559), ∀ a x, ((![v557, v559] : Fin 2 → IVec S16 32) a x).toNat < S160x128.size a := fun v557 v559 k0_hw47 => k0_hw47
def k0_off59 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_215 : BitVec 32 := 125#32
  let v560 : BitVec 32 := Scalar.muli arg8 c125_i32_215
  let c47_i32 : BitVec 32 := 47#32
  let v561 : BitVec 32 := Scalar.addi v560 c47_i32
  let c16_i32_216 : BitVec 32 := 16#32
  let v562 : BitVec 32 := Scalar.muli v561 c16_i32_216
  let v563 : Index := Scalar.indexCast v562
  ![v563.toNat]

def k0_chk48 (v568 : IVec S16 32) (v570 : IVec S16 32) : Prop :=
  (∀ a x, ((![v568, v570] : Fin 2 → IVec S16 32) a x).toNat < S160x128.size a)
theorem k0_idx48_inb : ∀ (v568 : IVec S16 32) (v570 : IVec S16 32) (k0_hw48 : k0_chk48 v568 v570), ∀ a x, ((![v568, v570] : Fin 2 → IVec S16 32) a x).toNat < S160x128.size a := fun v568 v570 k0_hw48 => k0_hw48
def k0_off60 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_219 : BitVec 32 := 125#32
  let v571 : BitVec 32 := Scalar.muli arg8 c125_i32_219
  let c48_i32 : BitVec 32 := 48#32
  let v572 : BitVec 32 := Scalar.addi v571 c48_i32
  let c16_i32_220 : BitVec 32 := 16#32
  let v573 : BitVec 32 := Scalar.muli v572 c16_i32_220
  let v574 : Index := Scalar.indexCast v573
  ![v574.toNat]

def k0_chk49 (v579 : IVec S16 32) (v581 : IVec S16 32) : Prop :=
  (∀ a x, ((![v579, v581] : Fin 2 → IVec S16 32) a x).toNat < S160x128.size a)
theorem k0_idx49_inb : ∀ (v579 : IVec S16 32) (v581 : IVec S16 32) (k0_hw49 : k0_chk49 v579 v581), ∀ a x, ((![v579, v581] : Fin 2 → IVec S16 32) a x).toNat < S160x128.size a := fun v579 v581 k0_hw49 => k0_hw49
def k0_off61 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_223 : BitVec 32 := 125#32
  let v582 : BitVec 32 := Scalar.muli arg8 c125_i32_223
  let c49_i32 : BitVec 32 := 49#32
  let v583 : BitVec 32 := Scalar.addi v582 c49_i32
  let c16_i32_224 : BitVec 32 := 16#32
  let v584 : BitVec 32 := Scalar.muli v583 c16_i32_224
  let v585 : Index := Scalar.indexCast v584
  ![v585.toNat]

def k0_chk50 (v590 : IVec S16 32) (v592 : IVec S16 32) : Prop :=
  (∀ a x, ((![v590, v592] : Fin 2 → IVec S16 32) a x).toNat < S160x128.size a)
theorem k0_idx50_inb : ∀ (v590 : IVec S16 32) (v592 : IVec S16 32) (k0_hw50 : k0_chk50 v590 v592), ∀ a x, ((![v590, v592] : Fin 2 → IVec S16 32) a x).toNat < S160x128.size a := fun v590 v592 k0_hw50 => k0_hw50
def k0_off62 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_227 : BitVec 32 := 125#32
  let v593 : BitVec 32 := Scalar.muli arg8 c125_i32_227
  let c50_i32 : BitVec 32 := 50#32
  let v594 : BitVec 32 := Scalar.addi v593 c50_i32
  let c16_i32_228 : BitVec 32 := 16#32
  let v595 : BitVec 32 := Scalar.muli v594 c16_i32_228
  let v596 : Index := Scalar.indexCast v595
  ![v596.toNat]

def k0_chk51 (v601 : IVec S16 32) (v603 : IVec S16 32) : Prop :=
  (∀ a x, ((![v601, v603] : Fin 2 → IVec S16 32) a x).toNat < S160x128.size a)
theorem k0_idx51_inb : ∀ (v601 : IVec S16 32) (v603 : IVec S16 32) (k0_hw51 : k0_chk51 v601 v603), ∀ a x, ((![v601, v603] : Fin 2 → IVec S16 32) a x).toNat < S160x128.size a := fun v601 v603 k0_hw51 => k0_hw51
def k0_off63 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_231 : BitVec 32 := 125#32
  let v604 : BitVec 32 := Scalar.muli arg8 c125_i32_231
  let c51_i32 : BitVec 32 := 51#32
  let v605 : BitVec 32 := Scalar.addi v604 c51_i32
  let c16_i32_232 : BitVec 32 := 16#32
  let v606 : BitVec 32 := Scalar.muli v605 c16_i32_232
  let v607 : Index := Scalar.indexCast v606
  ![v607.toNat]

def k0_chk52 (v612 : IVec S16 32) (v614 : IVec S16 32) : Prop :=
  (∀ a x, ((![v612, v614] : Fin 2 → IVec S16 32) a x).toNat < S160x128.size a)
theorem k0_idx52_inb : ∀ (v612 : IVec S16 32) (v614 : IVec S16 32) (k0_hw52 : k0_chk52 v612 v614), ∀ a x, ((![v612, v614] : Fin 2 → IVec S16 32) a x).toNat < S160x128.size a := fun v612 v614 k0_hw52 => k0_hw52
def k0_off64 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_235 : BitVec 32 := 125#32
  let v615 : BitVec 32 := Scalar.muli arg8 c125_i32_235
  let c52_i32 : BitVec 32 := 52#32
  let v616 : BitVec 32 := Scalar.addi v615 c52_i32
  let c16_i32_236 : BitVec 32 := 16#32
  let v617 : BitVec 32 := Scalar.muli v616 c16_i32_236
  let v618 : Index := Scalar.indexCast v617
  ![v618.toNat]

def k0_chk53 (v623 : IVec S16 32) (v625 : IVec S16 32) : Prop :=
  (∀ a x, ((![v623, v625] : Fin 2 → IVec S16 32) a x).toNat < S160x128.size a)
theorem k0_idx53_inb : ∀ (v623 : IVec S16 32) (v625 : IVec S16 32) (k0_hw53 : k0_chk53 v623 v625), ∀ a x, ((![v623, v625] : Fin 2 → IVec S16 32) a x).toNat < S160x128.size a := fun v623 v625 k0_hw53 => k0_hw53
def k0_off65 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_239 : BitVec 32 := 125#32
  let v626 : BitVec 32 := Scalar.muli arg8 c125_i32_239
  let c53_i32 : BitVec 32 := 53#32
  let v627 : BitVec 32 := Scalar.addi v626 c53_i32
  let c16_i32_240 : BitVec 32 := 16#32
  let v628 : BitVec 32 := Scalar.muli v627 c16_i32_240
  let v629 : Index := Scalar.indexCast v628
  ![v629.toNat]

def k0_chk54 (v634 : IVec S16 32) (v636 : IVec S16 32) : Prop :=
  (∀ a x, ((![v634, v636] : Fin 2 → IVec S16 32) a x).toNat < S160x128.size a)
theorem k0_idx54_inb : ∀ (v634 : IVec S16 32) (v636 : IVec S16 32) (k0_hw54 : k0_chk54 v634 v636), ∀ a x, ((![v634, v636] : Fin 2 → IVec S16 32) a x).toNat < S160x128.size a := fun v634 v636 k0_hw54 => k0_hw54
def k0_off66 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_243 : BitVec 32 := 125#32
  let v637 : BitVec 32 := Scalar.muli arg8 c125_i32_243
  let c54_i32 : BitVec 32 := 54#32
  let v638 : BitVec 32 := Scalar.addi v637 c54_i32
  let c16_i32_244 : BitVec 32 := 16#32
  let v639 : BitVec 32 := Scalar.muli v638 c16_i32_244
  let v640 : Index := Scalar.indexCast v639
  ![v640.toNat]

def k0_chk55 (v645 : IVec S16 32) (v647 : IVec S16 32) : Prop :=
  (∀ a x, ((![v645, v647] : Fin 2 → IVec S16 32) a x).toNat < S160x128.size a)
theorem k0_idx55_inb : ∀ (v645 : IVec S16 32) (v647 : IVec S16 32) (k0_hw55 : k0_chk55 v645 v647), ∀ a x, ((![v645, v647] : Fin 2 → IVec S16 32) a x).toNat < S160x128.size a := fun v645 v647 k0_hw55 => k0_hw55
def k0_off67 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_247 : BitVec 32 := 125#32
  let v648 : BitVec 32 := Scalar.muli arg8 c125_i32_247
  let c55_i32 : BitVec 32 := 55#32
  let v649 : BitVec 32 := Scalar.addi v648 c55_i32
  let c16_i32_248 : BitVec 32 := 16#32
  let v650 : BitVec 32 := Scalar.muli v649 c16_i32_248
  let v651 : Index := Scalar.indexCast v650
  ![v651.toNat]

def k0_chk56 (v656 : IVec S16 32) (v658 : IVec S16 32) : Prop :=
  (∀ a x, ((![v656, v658] : Fin 2 → IVec S16 32) a x).toNat < S160x128.size a)
theorem k0_idx56_inb : ∀ (v656 : IVec S16 32) (v658 : IVec S16 32) (k0_hw56 : k0_chk56 v656 v658), ∀ a x, ((![v656, v658] : Fin 2 → IVec S16 32) a x).toNat < S160x128.size a := fun v656 v658 k0_hw56 => k0_hw56
def k0_off68 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_251 : BitVec 32 := 125#32
  let v659 : BitVec 32 := Scalar.muli arg8 c125_i32_251
  let c56_i32 : BitVec 32 := 56#32
  let v660 : BitVec 32 := Scalar.addi v659 c56_i32
  let c16_i32_252 : BitVec 32 := 16#32
  let v661 : BitVec 32 := Scalar.muli v660 c16_i32_252
  let v662 : Index := Scalar.indexCast v661
  ![v662.toNat]

def k0_chk57 (v667 : IVec S16 32) (v669 : IVec S16 32) : Prop :=
  (∀ a x, ((![v667, v669] : Fin 2 → IVec S16 32) a x).toNat < S160x128.size a)
theorem k0_idx57_inb : ∀ (v667 : IVec S16 32) (v669 : IVec S16 32) (k0_hw57 : k0_chk57 v667 v669), ∀ a x, ((![v667, v669] : Fin 2 → IVec S16 32) a x).toNat < S160x128.size a := fun v667 v669 k0_hw57 => k0_hw57
def k0_off69 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_255 : BitVec 32 := 125#32
  let v670 : BitVec 32 := Scalar.muli arg8 c125_i32_255
  let c57_i32 : BitVec 32 := 57#32
  let v671 : BitVec 32 := Scalar.addi v670 c57_i32
  let c16_i32_256 : BitVec 32 := 16#32
  let v672 : BitVec 32 := Scalar.muli v671 c16_i32_256
  let v673 : Index := Scalar.indexCast v672
  ![v673.toNat]

def k0_chk58 (v678 : IVec S16 32) (v680 : IVec S16 32) : Prop :=
  (∀ a x, ((![v678, v680] : Fin 2 → IVec S16 32) a x).toNat < S160x128.size a)
theorem k0_idx58_inb : ∀ (v678 : IVec S16 32) (v680 : IVec S16 32) (k0_hw58 : k0_chk58 v678 v680), ∀ a x, ((![v678, v680] : Fin 2 → IVec S16 32) a x).toNat < S160x128.size a := fun v678 v680 k0_hw58 => k0_hw58
def k0_off70 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_259 : BitVec 32 := 125#32
  let v681 : BitVec 32 := Scalar.muli arg8 c125_i32_259
  let c58_i32 : BitVec 32 := 58#32
  let v682 : BitVec 32 := Scalar.addi v681 c58_i32
  let c16_i32_260 : BitVec 32 := 16#32
  let v683 : BitVec 32 := Scalar.muli v682 c16_i32_260
  let v684 : Index := Scalar.indexCast v683
  ![v684.toNat]

def k0_chk59 (v689 : IVec S16 32) (v691 : IVec S16 32) : Prop :=
  (∀ a x, ((![v689, v691] : Fin 2 → IVec S16 32) a x).toNat < S160x128.size a)
theorem k0_idx59_inb : ∀ (v689 : IVec S16 32) (v691 : IVec S16 32) (k0_hw59 : k0_chk59 v689 v691), ∀ a x, ((![v689, v691] : Fin 2 → IVec S16 32) a x).toNat < S160x128.size a := fun v689 v691 k0_hw59 => k0_hw59
def k0_off71 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_263 : BitVec 32 := 125#32
  let v692 : BitVec 32 := Scalar.muli arg8 c125_i32_263
  let c59_i32 : BitVec 32 := 59#32
  let v693 : BitVec 32 := Scalar.addi v692 c59_i32
  let c16_i32_264 : BitVec 32 := 16#32
  let v694 : BitVec 32 := Scalar.muli v693 c16_i32_264
  let v695 : Index := Scalar.indexCast v694
  ![v695.toNat]

def k0_chk60 (v700 : IVec S16 32) (v702 : IVec S16 32) : Prop :=
  (∀ a x, ((![v700, v702] : Fin 2 → IVec S16 32) a x).toNat < S160x128.size a)
theorem k0_idx60_inb : ∀ (v700 : IVec S16 32) (v702 : IVec S16 32) (k0_hw60 : k0_chk60 v700 v702), ∀ a x, ((![v700, v702] : Fin 2 → IVec S16 32) a x).toNat < S160x128.size a := fun v700 v702 k0_hw60 => k0_hw60
def k0_off72 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_267 : BitVec 32 := 125#32
  let v703 : BitVec 32 := Scalar.muli arg8 c125_i32_267
  let c60_i32 : BitVec 32 := 60#32
  let v704 : BitVec 32 := Scalar.addi v703 c60_i32
  let c16_i32_268 : BitVec 32 := 16#32
  let v705 : BitVec 32 := Scalar.muli v704 c16_i32_268
  let v706 : Index := Scalar.indexCast v705
  ![v706.toNat]

def k0_chk61 (v711 : IVec S16 32) (v713 : IVec S16 32) : Prop :=
  (∀ a x, ((![v711, v713] : Fin 2 → IVec S16 32) a x).toNat < S160x128.size a)
theorem k0_idx61_inb : ∀ (v711 : IVec S16 32) (v713 : IVec S16 32) (k0_hw61 : k0_chk61 v711 v713), ∀ a x, ((![v711, v713] : Fin 2 → IVec S16 32) a x).toNat < S160x128.size a := fun v711 v713 k0_hw61 => k0_hw61
def k0_off73 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_271 : BitVec 32 := 125#32
  let v714 : BitVec 32 := Scalar.muli arg8 c125_i32_271
  let c61_i32 : BitVec 32 := 61#32
  let v715 : BitVec 32 := Scalar.addi v714 c61_i32
  let c16_i32_272 : BitVec 32 := 16#32
  let v716 : BitVec 32 := Scalar.muli v715 c16_i32_272
  let v717 : Index := Scalar.indexCast v716
  ![v717.toNat]

def k0_chk62 (v722 : IVec S16 32) (v724 : IVec S16 32) : Prop :=
  (∀ a x, ((![v722, v724] : Fin 2 → IVec S16 32) a x).toNat < S160x128.size a)
theorem k0_idx62_inb : ∀ (v722 : IVec S16 32) (v724 : IVec S16 32) (k0_hw62 : k0_chk62 v722 v724), ∀ a x, ((![v722, v724] : Fin 2 → IVec S16 32) a x).toNat < S160x128.size a := fun v722 v724 k0_hw62 => k0_hw62
def k0_off74 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_275 : BitVec 32 := 125#32
  let v725 : BitVec 32 := Scalar.muli arg8 c125_i32_275
  let c62_i32 : BitVec 32 := 62#32
  let v726 : BitVec 32 := Scalar.addi v725 c62_i32
  let c16_i32_276 : BitVec 32 := 16#32
  let v727 : BitVec 32 := Scalar.muli v726 c16_i32_276
  let v728 : Index := Scalar.indexCast v727
  ![v728.toNat]

def k0_chk63 (v733 : IVec S16 32) (v735 : IVec S16 32) : Prop :=
  (∀ a x, ((![v733, v735] : Fin 2 → IVec S16 32) a x).toNat < S160x128.size a)
theorem k0_idx63_inb : ∀ (v733 : IVec S16 32) (v735 : IVec S16 32) (k0_hw63 : k0_chk63 v733 v735), ∀ a x, ((![v733, v735] : Fin 2 → IVec S16 32) a x).toNat < S160x128.size a := fun v733 v735 k0_hw63 => k0_hw63
def k0_off75 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_279 : BitVec 32 := 125#32
  let v736 : BitVec 32 := Scalar.muli arg8 c125_i32_279
  let c63_i32 : BitVec 32 := 63#32
  let v737 : BitVec 32 := Scalar.addi v736 c63_i32
  let c16_i32_280 : BitVec 32 := 16#32
  let v738 : BitVec 32 := Scalar.muli v737 c16_i32_280
  let v739 : Index := Scalar.indexCast v738
  ![v739.toNat]

def k0_chk64 (v744 : IVec S16 32) (v746 : IVec S16 32) : Prop :=
  (∀ a x, ((![v744, v746] : Fin 2 → IVec S16 32) a x).toNat < S160x128.size a)
theorem k0_idx64_inb : ∀ (v744 : IVec S16 32) (v746 : IVec S16 32) (k0_hw64 : k0_chk64 v744 v746), ∀ a x, ((![v744, v746] : Fin 2 → IVec S16 32) a x).toNat < S160x128.size a := fun v744 v746 k0_hw64 => k0_hw64
def k0_off76 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_283 : BitVec 32 := 125#32
  let v747 : BitVec 32 := Scalar.muli arg8 c125_i32_283
  let c64_i32 : BitVec 32 := 64#32
  let v748 : BitVec 32 := Scalar.addi v747 c64_i32
  let c16_i32_284 : BitVec 32 := 16#32
  let v749 : BitVec 32 := Scalar.muli v748 c16_i32_284
  let v750 : Index := Scalar.indexCast v749
  ![v750.toNat]

def k0_chk65 (v755 : IVec S16 32) (v757 : IVec S16 32) : Prop :=
  (∀ a x, ((![v755, v757] : Fin 2 → IVec S16 32) a x).toNat < S160x128.size a)
theorem k0_idx65_inb : ∀ (v755 : IVec S16 32) (v757 : IVec S16 32) (k0_hw65 : k0_chk65 v755 v757), ∀ a x, ((![v755, v757] : Fin 2 → IVec S16 32) a x).toNat < S160x128.size a := fun v755 v757 k0_hw65 => k0_hw65
def k0_off77 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_287 : BitVec 32 := 125#32
  let v758 : BitVec 32 := Scalar.muli arg8 c125_i32_287
  let c65_i32 : BitVec 32 := 65#32
  let v759 : BitVec 32 := Scalar.addi v758 c65_i32
  let c16_i32_288 : BitVec 32 := 16#32
  let v760 : BitVec 32 := Scalar.muli v759 c16_i32_288
  let v761 : Index := Scalar.indexCast v760
  ![v761.toNat]

def k0_chk66 (v766 : IVec S16 32) (v768 : IVec S16 32) : Prop :=
  (∀ a x, ((![v766, v768] : Fin 2 → IVec S16 32) a x).toNat < S160x128.size a)
theorem k0_idx66_inb : ∀ (v766 : IVec S16 32) (v768 : IVec S16 32) (k0_hw66 : k0_chk66 v766 v768), ∀ a x, ((![v766, v768] : Fin 2 → IVec S16 32) a x).toNat < S160x128.size a := fun v766 v768 k0_hw66 => k0_hw66
def k0_off78 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_291 : BitVec 32 := 125#32
  let v769 : BitVec 32 := Scalar.muli arg8 c125_i32_291
  let c66_i32 : BitVec 32 := 66#32
  let v770 : BitVec 32 := Scalar.addi v769 c66_i32
  let c16_i32_292 : BitVec 32 := 16#32
  let v771 : BitVec 32 := Scalar.muli v770 c16_i32_292
  let v772 : Index := Scalar.indexCast v771
  ![v772.toNat]

def k0_chk67 (v777 : IVec S16 32) (v779 : IVec S16 32) : Prop :=
  (∀ a x, ((![v777, v779] : Fin 2 → IVec S16 32) a x).toNat < S160x128.size a)
theorem k0_idx67_inb : ∀ (v777 : IVec S16 32) (v779 : IVec S16 32) (k0_hw67 : k0_chk67 v777 v779), ∀ a x, ((![v777, v779] : Fin 2 → IVec S16 32) a x).toNat < S160x128.size a := fun v777 v779 k0_hw67 => k0_hw67
def k0_off79 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_295 : BitVec 32 := 125#32
  let v780 : BitVec 32 := Scalar.muli arg8 c125_i32_295
  let c67_i32 : BitVec 32 := 67#32
  let v781 : BitVec 32 := Scalar.addi v780 c67_i32
  let c16_i32_296 : BitVec 32 := 16#32
  let v782 : BitVec 32 := Scalar.muli v781 c16_i32_296
  let v783 : Index := Scalar.indexCast v782
  ![v783.toNat]

def k0_chk68 (v788 : IVec S16 32) (v790 : IVec S16 32) : Prop :=
  (∀ a x, ((![v788, v790] : Fin 2 → IVec S16 32) a x).toNat < S160x128.size a)
theorem k0_idx68_inb : ∀ (v788 : IVec S16 32) (v790 : IVec S16 32) (k0_hw68 : k0_chk68 v788 v790), ∀ a x, ((![v788, v790] : Fin 2 → IVec S16 32) a x).toNat < S160x128.size a := fun v788 v790 k0_hw68 => k0_hw68
def k0_off80 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_299 : BitVec 32 := 125#32
  let v791 : BitVec 32 := Scalar.muli arg8 c125_i32_299
  let c68_i32 : BitVec 32 := 68#32
  let v792 : BitVec 32 := Scalar.addi v791 c68_i32
  let c16_i32_300 : BitVec 32 := 16#32
  let v793 : BitVec 32 := Scalar.muli v792 c16_i32_300
  let v794 : Index := Scalar.indexCast v793
  ![v794.toNat]

def k0_chk69 (v799 : IVec S16 32) (v801 : IVec S16 32) : Prop :=
  (∀ a x, ((![v799, v801] : Fin 2 → IVec S16 32) a x).toNat < S160x128.size a)
theorem k0_idx69_inb : ∀ (v799 : IVec S16 32) (v801 : IVec S16 32) (k0_hw69 : k0_chk69 v799 v801), ∀ a x, ((![v799, v801] : Fin 2 → IVec S16 32) a x).toNat < S160x128.size a := fun v799 v801 k0_hw69 => k0_hw69
def k0_off81 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_303 : BitVec 32 := 125#32
  let v802 : BitVec 32 := Scalar.muli arg8 c125_i32_303
  let c69_i32 : BitVec 32 := 69#32
  let v803 : BitVec 32 := Scalar.addi v802 c69_i32
  let c16_i32_304 : BitVec 32 := 16#32
  let v804 : BitVec 32 := Scalar.muli v803 c16_i32_304
  let v805 : Index := Scalar.indexCast v804
  ![v805.toNat]

def k0_chk70 (v810 : IVec S16 32) (v812 : IVec S16 32) : Prop :=
  (∀ a x, ((![v810, v812] : Fin 2 → IVec S16 32) a x).toNat < S160x128.size a)
theorem k0_idx70_inb : ∀ (v810 : IVec S16 32) (v812 : IVec S16 32) (k0_hw70 : k0_chk70 v810 v812), ∀ a x, ((![v810, v812] : Fin 2 → IVec S16 32) a x).toNat < S160x128.size a := fun v810 v812 k0_hw70 => k0_hw70
def k0_off82 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_307 : BitVec 32 := 125#32
  let v813 : BitVec 32 := Scalar.muli arg8 c125_i32_307
  let c70_i32 : BitVec 32 := 70#32
  let v814 : BitVec 32 := Scalar.addi v813 c70_i32
  let c16_i32_308 : BitVec 32 := 16#32
  let v815 : BitVec 32 := Scalar.muli v814 c16_i32_308
  let v816 : Index := Scalar.indexCast v815
  ![v816.toNat]

def k0_chk71 (v821 : IVec S16 32) (v823 : IVec S16 32) : Prop :=
  (∀ a x, ((![v821, v823] : Fin 2 → IVec S16 32) a x).toNat < S160x128.size a)
theorem k0_idx71_inb : ∀ (v821 : IVec S16 32) (v823 : IVec S16 32) (k0_hw71 : k0_chk71 v821 v823), ∀ a x, ((![v821, v823] : Fin 2 → IVec S16 32) a x).toNat < S160x128.size a := fun v821 v823 k0_hw71 => k0_hw71
def k0_off83 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_311 : BitVec 32 := 125#32
  let v824 : BitVec 32 := Scalar.muli arg8 c125_i32_311
  let c71_i32 : BitVec 32 := 71#32
  let v825 : BitVec 32 := Scalar.addi v824 c71_i32
  let c16_i32_312 : BitVec 32 := 16#32
  let v826 : BitVec 32 := Scalar.muli v825 c16_i32_312
  let v827 : Index := Scalar.indexCast v826
  ![v827.toNat]

def k0_chk72 (v832 : IVec S16 32) (v834 : IVec S16 32) : Prop :=
  (∀ a x, ((![v832, v834] : Fin 2 → IVec S16 32) a x).toNat < S160x128.size a)
theorem k0_idx72_inb : ∀ (v832 : IVec S16 32) (v834 : IVec S16 32) (k0_hw72 : k0_chk72 v832 v834), ∀ a x, ((![v832, v834] : Fin 2 → IVec S16 32) a x).toNat < S160x128.size a := fun v832 v834 k0_hw72 => k0_hw72
def k0_off84 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_315 : BitVec 32 := 125#32
  let v835 : BitVec 32 := Scalar.muli arg8 c125_i32_315
  let c72_i32 : BitVec 32 := 72#32
  let v836 : BitVec 32 := Scalar.addi v835 c72_i32
  let c16_i32_316 : BitVec 32 := 16#32
  let v837 : BitVec 32 := Scalar.muli v836 c16_i32_316
  let v838 : Index := Scalar.indexCast v837
  ![v838.toNat]

def k0_chk73 (v843 : IVec S16 32) (v845 : IVec S16 32) : Prop :=
  (∀ a x, ((![v843, v845] : Fin 2 → IVec S16 32) a x).toNat < S160x128.size a)
theorem k0_idx73_inb : ∀ (v843 : IVec S16 32) (v845 : IVec S16 32) (k0_hw73 : k0_chk73 v843 v845), ∀ a x, ((![v843, v845] : Fin 2 → IVec S16 32) a x).toNat < S160x128.size a := fun v843 v845 k0_hw73 => k0_hw73
def k0_off85 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_319 : BitVec 32 := 125#32
  let v846 : BitVec 32 := Scalar.muli arg8 c125_i32_319
  let c73_i32 : BitVec 32 := 73#32
  let v847 : BitVec 32 := Scalar.addi v846 c73_i32
  let c16_i32_320 : BitVec 32 := 16#32
  let v848 : BitVec 32 := Scalar.muli v847 c16_i32_320
  let v849 : Index := Scalar.indexCast v848
  ![v849.toNat]

def k0_chk74 (v854 : IVec S16 32) (v856 : IVec S16 32) : Prop :=
  (∀ a x, ((![v854, v856] : Fin 2 → IVec S16 32) a x).toNat < S160x128.size a)
theorem k0_idx74_inb : ∀ (v854 : IVec S16 32) (v856 : IVec S16 32) (k0_hw74 : k0_chk74 v854 v856), ∀ a x, ((![v854, v856] : Fin 2 → IVec S16 32) a x).toNat < S160x128.size a := fun v854 v856 k0_hw74 => k0_hw74
def k0_off86 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_323 : BitVec 32 := 125#32
  let v857 : BitVec 32 := Scalar.muli arg8 c125_i32_323
  let c74_i32 : BitVec 32 := 74#32
  let v858 : BitVec 32 := Scalar.addi v857 c74_i32
  let c16_i32_324 : BitVec 32 := 16#32
  let v859 : BitVec 32 := Scalar.muli v858 c16_i32_324
  let v860 : Index := Scalar.indexCast v859
  ![v860.toNat]

def k0_chk75 (v865 : IVec S16 32) (v867 : IVec S16 32) : Prop :=
  (∀ a x, ((![v865, v867] : Fin 2 → IVec S16 32) a x).toNat < S160x128.size a)
theorem k0_idx75_inb : ∀ (v865 : IVec S16 32) (v867 : IVec S16 32) (k0_hw75 : k0_chk75 v865 v867), ∀ a x, ((![v865, v867] : Fin 2 → IVec S16 32) a x).toNat < S160x128.size a := fun v865 v867 k0_hw75 => k0_hw75
def k0_off87 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_327 : BitVec 32 := 125#32
  let v868 : BitVec 32 := Scalar.muli arg8 c125_i32_327
  let c75_i32 : BitVec 32 := 75#32
  let v869 : BitVec 32 := Scalar.addi v868 c75_i32
  let c16_i32_328 : BitVec 32 := 16#32
  let v870 : BitVec 32 := Scalar.muli v869 c16_i32_328
  let v871 : Index := Scalar.indexCast v870
  ![v871.toNat]

def k0_chk76 (v876 : IVec S16 32) (v878 : IVec S16 32) : Prop :=
  (∀ a x, ((![v876, v878] : Fin 2 → IVec S16 32) a x).toNat < S160x128.size a)
theorem k0_idx76_inb : ∀ (v876 : IVec S16 32) (v878 : IVec S16 32) (k0_hw76 : k0_chk76 v876 v878), ∀ a x, ((![v876, v878] : Fin 2 → IVec S16 32) a x).toNat < S160x128.size a := fun v876 v878 k0_hw76 => k0_hw76
def k0_off88 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_331 : BitVec 32 := 125#32
  let v879 : BitVec 32 := Scalar.muli arg8 c125_i32_331
  let c76_i32 : BitVec 32 := 76#32
  let v880 : BitVec 32 := Scalar.addi v879 c76_i32
  let c16_i32_332 : BitVec 32 := 16#32
  let v881 : BitVec 32 := Scalar.muli v880 c16_i32_332
  let v882 : Index := Scalar.indexCast v881
  ![v882.toNat]

def k0_chk77 (v887 : IVec S16 32) (v889 : IVec S16 32) : Prop :=
  (∀ a x, ((![v887, v889] : Fin 2 → IVec S16 32) a x).toNat < S160x128.size a)
theorem k0_idx77_inb : ∀ (v887 : IVec S16 32) (v889 : IVec S16 32) (k0_hw77 : k0_chk77 v887 v889), ∀ a x, ((![v887, v889] : Fin 2 → IVec S16 32) a x).toNat < S160x128.size a := fun v887 v889 k0_hw77 => k0_hw77
def k0_off89 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_335 : BitVec 32 := 125#32
  let v890 : BitVec 32 := Scalar.muli arg8 c125_i32_335
  let c77_i32 : BitVec 32 := 77#32
  let v891 : BitVec 32 := Scalar.addi v890 c77_i32
  let c16_i32_336 : BitVec 32 := 16#32
  let v892 : BitVec 32 := Scalar.muli v891 c16_i32_336
  let v893 : Index := Scalar.indexCast v892
  ![v893.toNat]

def k0_chk78 (v898 : IVec S16 32) (v900 : IVec S16 32) : Prop :=
  (∀ a x, ((![v898, v900] : Fin 2 → IVec S16 32) a x).toNat < S160x128.size a)
theorem k0_idx78_inb : ∀ (v898 : IVec S16 32) (v900 : IVec S16 32) (k0_hw78 : k0_chk78 v898 v900), ∀ a x, ((![v898, v900] : Fin 2 → IVec S16 32) a x).toNat < S160x128.size a := fun v898 v900 k0_hw78 => k0_hw78
def k0_off90 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_339 : BitVec 32 := 125#32
  let v901 : BitVec 32 := Scalar.muli arg8 c125_i32_339
  let c78_i32 : BitVec 32 := 78#32
  let v902 : BitVec 32 := Scalar.addi v901 c78_i32
  let c16_i32_340 : BitVec 32 := 16#32
  let v903 : BitVec 32 := Scalar.muli v902 c16_i32_340
  let v904 : Index := Scalar.indexCast v903
  ![v904.toNat]

def k0_chk79 (v909 : IVec S16 32) (v911 : IVec S16 32) : Prop :=
  (∀ a x, ((![v909, v911] : Fin 2 → IVec S16 32) a x).toNat < S160x128.size a)
theorem k0_idx79_inb : ∀ (v909 : IVec S16 32) (v911 : IVec S16 32) (k0_hw79 : k0_chk79 v909 v911), ∀ a x, ((![v909, v911] : Fin 2 → IVec S16 32) a x).toNat < S160x128.size a := fun v909 v911 k0_hw79 => k0_hw79
def k0_off91 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_343 : BitVec 32 := 125#32
  let v912 : BitVec 32 := Scalar.muli arg8 c125_i32_343
  let c79_i32 : BitVec 32 := 79#32
  let v913 : BitVec 32 := Scalar.addi v912 c79_i32
  let c16_i32_344 : BitVec 32 := 16#32
  let v914 : BitVec 32 := Scalar.muli v913 c16_i32_344
  let v915 : Index := Scalar.indexCast v914
  ![v915.toNat]

def k0_chk80 (v920 : IVec S16 32) (v922 : IVec S16 32) : Prop :=
  (∀ a x, ((![v920, v922] : Fin 2 → IVec S16 32) a x).toNat < S160x128.size a)
theorem k0_idx80_inb : ∀ (v920 : IVec S16 32) (v922 : IVec S16 32) (k0_hw80 : k0_chk80 v920 v922), ∀ a x, ((![v920, v922] : Fin 2 → IVec S16 32) a x).toNat < S160x128.size a := fun v920 v922 k0_hw80 => k0_hw80
def k0_off92 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_347 : BitVec 32 := 125#32
  let v923 : BitVec 32 := Scalar.muli arg8 c125_i32_347
  let c80_i32_348 : BitVec 32 := 80#32
  let v924 : BitVec 32 := Scalar.addi v923 c80_i32_348
  let c16_i32_349 : BitVec 32 := 16#32
  let v925 : BitVec 32 := Scalar.muli v924 c16_i32_349
  let v926 : Index := Scalar.indexCast v925
  ![v926.toNat]

def k0_chk81 (v931 : IVec S16 32) (v933 : IVec S16 32) : Prop :=
  (∀ a x, ((![v931, v933] : Fin 2 → IVec S16 32) a x).toNat < S160x128.size a)
theorem k0_idx81_inb : ∀ (v931 : IVec S16 32) (v933 : IVec S16 32) (k0_hw81 : k0_chk81 v931 v933), ∀ a x, ((![v931, v933] : Fin 2 → IVec S16 32) a x).toNat < S160x128.size a := fun v931 v933 k0_hw81 => k0_hw81
def k0_off93 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_352 : BitVec 32 := 125#32
  let v934 : BitVec 32 := Scalar.muli arg8 c125_i32_352
  let c81_i32 : BitVec 32 := 81#32
  let v935 : BitVec 32 := Scalar.addi v934 c81_i32
  let c16_i32_353 : BitVec 32 := 16#32
  let v936 : BitVec 32 := Scalar.muli v935 c16_i32_353
  let v937 : Index := Scalar.indexCast v936
  ![v937.toNat]

def k0_chk82 (v942 : IVec S16 32) (v944 : IVec S16 32) : Prop :=
  (∀ a x, ((![v942, v944] : Fin 2 → IVec S16 32) a x).toNat < S160x128.size a)
theorem k0_idx82_inb : ∀ (v942 : IVec S16 32) (v944 : IVec S16 32) (k0_hw82 : k0_chk82 v942 v944), ∀ a x, ((![v942, v944] : Fin 2 → IVec S16 32) a x).toNat < S160x128.size a := fun v942 v944 k0_hw82 => k0_hw82
def k0_off94 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_356 : BitVec 32 := 125#32
  let v945 : BitVec 32 := Scalar.muli arg8 c125_i32_356
  let c82_i32 : BitVec 32 := 82#32
  let v946 : BitVec 32 := Scalar.addi v945 c82_i32
  let c16_i32_357 : BitVec 32 := 16#32
  let v947 : BitVec 32 := Scalar.muli v946 c16_i32_357
  let v948 : Index := Scalar.indexCast v947
  ![v948.toNat]

def k0_chk83 (v953 : IVec S16 32) (v955 : IVec S16 32) : Prop :=
  (∀ a x, ((![v953, v955] : Fin 2 → IVec S16 32) a x).toNat < S160x128.size a)
theorem k0_idx83_inb : ∀ (v953 : IVec S16 32) (v955 : IVec S16 32) (k0_hw83 : k0_chk83 v953 v955), ∀ a x, ((![v953, v955] : Fin 2 → IVec S16 32) a x).toNat < S160x128.size a := fun v953 v955 k0_hw83 => k0_hw83
def k0_off95 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_360 : BitVec 32 := 125#32
  let v956 : BitVec 32 := Scalar.muli arg8 c125_i32_360
  let c83_i32 : BitVec 32 := 83#32
  let v957 : BitVec 32 := Scalar.addi v956 c83_i32
  let c16_i32_361 : BitVec 32 := 16#32
  let v958 : BitVec 32 := Scalar.muli v957 c16_i32_361
  let v959 : Index := Scalar.indexCast v958
  ![v959.toNat]

def k0_chk84 (v964 : IVec S16 32) (v966 : IVec S16 32) : Prop :=
  (∀ a x, ((![v964, v966] : Fin 2 → IVec S16 32) a x).toNat < S160x128.size a)
theorem k0_idx84_inb : ∀ (v964 : IVec S16 32) (v966 : IVec S16 32) (k0_hw84 : k0_chk84 v964 v966), ∀ a x, ((![v964, v966] : Fin 2 → IVec S16 32) a x).toNat < S160x128.size a := fun v964 v966 k0_hw84 => k0_hw84
def k0_off96 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_364 : BitVec 32 := 125#32
  let v967 : BitVec 32 := Scalar.muli arg8 c125_i32_364
  let c84_i32 : BitVec 32 := 84#32
  let v968 : BitVec 32 := Scalar.addi v967 c84_i32
  let c16_i32_365 : BitVec 32 := 16#32
  let v969 : BitVec 32 := Scalar.muli v968 c16_i32_365
  let v970 : Index := Scalar.indexCast v969
  ![v970.toNat]

def k0_chk85 (v975 : IVec S16 32) (v977 : IVec S16 32) : Prop :=
  (∀ a x, ((![v975, v977] : Fin 2 → IVec S16 32) a x).toNat < S160x128.size a)
theorem k0_idx85_inb : ∀ (v975 : IVec S16 32) (v977 : IVec S16 32) (k0_hw85 : k0_chk85 v975 v977), ∀ a x, ((![v975, v977] : Fin 2 → IVec S16 32) a x).toNat < S160x128.size a := fun v975 v977 k0_hw85 => k0_hw85
def k0_off97 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_368 : BitVec 32 := 125#32
  let v978 : BitVec 32 := Scalar.muli arg8 c125_i32_368
  let c85_i32 : BitVec 32 := 85#32
  let v979 : BitVec 32 := Scalar.addi v978 c85_i32
  let c16_i32_369 : BitVec 32 := 16#32
  let v980 : BitVec 32 := Scalar.muli v979 c16_i32_369
  let v981 : Index := Scalar.indexCast v980
  ![v981.toNat]

def k0_chk86 (v986 : IVec S16 32) (v988 : IVec S16 32) : Prop :=
  (∀ a x, ((![v986, v988] : Fin 2 → IVec S16 32) a x).toNat < S160x128.size a)
theorem k0_idx86_inb : ∀ (v986 : IVec S16 32) (v988 : IVec S16 32) (k0_hw86 : k0_chk86 v986 v988), ∀ a x, ((![v986, v988] : Fin 2 → IVec S16 32) a x).toNat < S160x128.size a := fun v986 v988 k0_hw86 => k0_hw86
def k0_off98 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_372 : BitVec 32 := 125#32
  let v989 : BitVec 32 := Scalar.muli arg8 c125_i32_372
  let c86_i32 : BitVec 32 := 86#32
  let v990 : BitVec 32 := Scalar.addi v989 c86_i32
  let c16_i32_373 : BitVec 32 := 16#32
  let v991 : BitVec 32 := Scalar.muli v990 c16_i32_373
  let v992 : Index := Scalar.indexCast v991
  ![v992.toNat]

def k0_chk87 (v997 : IVec S16 32) (v999 : IVec S16 32) : Prop :=
  (∀ a x, ((![v997, v999] : Fin 2 → IVec S16 32) a x).toNat < S160x128.size a)
theorem k0_idx87_inb : ∀ (v997 : IVec S16 32) (v999 : IVec S16 32) (k0_hw87 : k0_chk87 v997 v999), ∀ a x, ((![v997, v999] : Fin 2 → IVec S16 32) a x).toNat < S160x128.size a := fun v997 v999 k0_hw87 => k0_hw87
def k0_off99 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_376 : BitVec 32 := 125#32
  let v1000 : BitVec 32 := Scalar.muli arg8 c125_i32_376
  let c87_i32 : BitVec 32 := 87#32
  let v1001 : BitVec 32 := Scalar.addi v1000 c87_i32
  let c16_i32_377 : BitVec 32 := 16#32
  let v1002 : BitVec 32 := Scalar.muli v1001 c16_i32_377
  let v1003 : Index := Scalar.indexCast v1002
  ![v1003.toNat]

def k0_chk88 (v1008 : IVec S16 32) (v1010 : IVec S16 32) : Prop :=
  (∀ a x, ((![v1008, v1010] : Fin 2 → IVec S16 32) a x).toNat < S160x128.size a)
theorem k0_idx88_inb : ∀ (v1008 : IVec S16 32) (v1010 : IVec S16 32) (k0_hw88 : k0_chk88 v1008 v1010), ∀ a x, ((![v1008, v1010] : Fin 2 → IVec S16 32) a x).toNat < S160x128.size a := fun v1008 v1010 k0_hw88 => k0_hw88
def k0_off100 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_380 : BitVec 32 := 125#32
  let v1011 : BitVec 32 := Scalar.muli arg8 c125_i32_380
  let c88_i32 : BitVec 32 := 88#32
  let v1012 : BitVec 32 := Scalar.addi v1011 c88_i32
  let c16_i32_381 : BitVec 32 := 16#32
  let v1013 : BitVec 32 := Scalar.muli v1012 c16_i32_381
  let v1014 : Index := Scalar.indexCast v1013
  ![v1014.toNat]

def k0_chk89 (v1019 : IVec S16 32) (v1021 : IVec S16 32) : Prop :=
  (∀ a x, ((![v1019, v1021] : Fin 2 → IVec S16 32) a x).toNat < S160x128.size a)
theorem k0_idx89_inb : ∀ (v1019 : IVec S16 32) (v1021 : IVec S16 32) (k0_hw89 : k0_chk89 v1019 v1021), ∀ a x, ((![v1019, v1021] : Fin 2 → IVec S16 32) a x).toNat < S160x128.size a := fun v1019 v1021 k0_hw89 => k0_hw89
def k0_off101 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_384 : BitVec 32 := 125#32
  let v1022 : BitVec 32 := Scalar.muli arg8 c125_i32_384
  let c89_i32 : BitVec 32 := 89#32
  let v1023 : BitVec 32 := Scalar.addi v1022 c89_i32
  let c16_i32_385 : BitVec 32 := 16#32
  let v1024 : BitVec 32 := Scalar.muli v1023 c16_i32_385
  let v1025 : Index := Scalar.indexCast v1024
  ![v1025.toNat]

def k0_chk90 (v1030 : IVec S16 32) (v1032 : IVec S16 32) : Prop :=
  (∀ a x, ((![v1030, v1032] : Fin 2 → IVec S16 32) a x).toNat < S160x128.size a)
theorem k0_idx90_inb : ∀ (v1030 : IVec S16 32) (v1032 : IVec S16 32) (k0_hw90 : k0_chk90 v1030 v1032), ∀ a x, ((![v1030, v1032] : Fin 2 → IVec S16 32) a x).toNat < S160x128.size a := fun v1030 v1032 k0_hw90 => k0_hw90
def k0_off102 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_388 : BitVec 32 := 125#32
  let v1033 : BitVec 32 := Scalar.muli arg8 c125_i32_388
  let c90_i32 : BitVec 32 := 90#32
  let v1034 : BitVec 32 := Scalar.addi v1033 c90_i32
  let c16_i32_389 : BitVec 32 := 16#32
  let v1035 : BitVec 32 := Scalar.muli v1034 c16_i32_389
  let v1036 : Index := Scalar.indexCast v1035
  ![v1036.toNat]

def k0_chk91 (v1041 : IVec S16 32) (v1043 : IVec S16 32) : Prop :=
  (∀ a x, ((![v1041, v1043] : Fin 2 → IVec S16 32) a x).toNat < S160x128.size a)
theorem k0_idx91_inb : ∀ (v1041 : IVec S16 32) (v1043 : IVec S16 32) (k0_hw91 : k0_chk91 v1041 v1043), ∀ a x, ((![v1041, v1043] : Fin 2 → IVec S16 32) a x).toNat < S160x128.size a := fun v1041 v1043 k0_hw91 => k0_hw91
def k0_off103 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_392 : BitVec 32 := 125#32
  let v1044 : BitVec 32 := Scalar.muli arg8 c125_i32_392
  let c91_i32 : BitVec 32 := 91#32
  let v1045 : BitVec 32 := Scalar.addi v1044 c91_i32
  let c16_i32_393 : BitVec 32 := 16#32
  let v1046 : BitVec 32 := Scalar.muli v1045 c16_i32_393
  let v1047 : Index := Scalar.indexCast v1046
  ![v1047.toNat]

def k0_chk92 (v1052 : IVec S16 32) (v1054 : IVec S16 32) : Prop :=
  (∀ a x, ((![v1052, v1054] : Fin 2 → IVec S16 32) a x).toNat < S160x128.size a)
theorem k0_idx92_inb : ∀ (v1052 : IVec S16 32) (v1054 : IVec S16 32) (k0_hw92 : k0_chk92 v1052 v1054), ∀ a x, ((![v1052, v1054] : Fin 2 → IVec S16 32) a x).toNat < S160x128.size a := fun v1052 v1054 k0_hw92 => k0_hw92
def k0_off104 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_396 : BitVec 32 := 125#32
  let v1055 : BitVec 32 := Scalar.muli arg8 c125_i32_396
  let c92_i32 : BitVec 32 := 92#32
  let v1056 : BitVec 32 := Scalar.addi v1055 c92_i32
  let c16_i32_397 : BitVec 32 := 16#32
  let v1057 : BitVec 32 := Scalar.muli v1056 c16_i32_397
  let v1058 : Index := Scalar.indexCast v1057
  ![v1058.toNat]

def k0_chk93 (v1063 : IVec S16 32) (v1065 : IVec S16 32) : Prop :=
  (∀ a x, ((![v1063, v1065] : Fin 2 → IVec S16 32) a x).toNat < S160x128.size a)
theorem k0_idx93_inb : ∀ (v1063 : IVec S16 32) (v1065 : IVec S16 32) (k0_hw93 : k0_chk93 v1063 v1065), ∀ a x, ((![v1063, v1065] : Fin 2 → IVec S16 32) a x).toNat < S160x128.size a := fun v1063 v1065 k0_hw93 => k0_hw93
def k0_off105 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_400 : BitVec 32 := 125#32
  let v1066 : BitVec 32 := Scalar.muli arg8 c125_i32_400
  let c93_i32 : BitVec 32 := 93#32
  let v1067 : BitVec 32 := Scalar.addi v1066 c93_i32
  let c16_i32_401 : BitVec 32 := 16#32
  let v1068 : BitVec 32 := Scalar.muli v1067 c16_i32_401
  let v1069 : Index := Scalar.indexCast v1068
  ![v1069.toNat]

def k0_chk94 (v1074 : IVec S16 32) (v1076 : IVec S16 32) : Prop :=
  (∀ a x, ((![v1074, v1076] : Fin 2 → IVec S16 32) a x).toNat < S160x128.size a)
theorem k0_idx94_inb : ∀ (v1074 : IVec S16 32) (v1076 : IVec S16 32) (k0_hw94 : k0_chk94 v1074 v1076), ∀ a x, ((![v1074, v1076] : Fin 2 → IVec S16 32) a x).toNat < S160x128.size a := fun v1074 v1076 k0_hw94 => k0_hw94
def k0_off106 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_404 : BitVec 32 := 125#32
  let v1077 : BitVec 32 := Scalar.muli arg8 c125_i32_404
  let c94_i32 : BitVec 32 := 94#32
  let v1078 : BitVec 32 := Scalar.addi v1077 c94_i32
  let c16_i32_405 : BitVec 32 := 16#32
  let v1079 : BitVec 32 := Scalar.muli v1078 c16_i32_405
  let v1080 : Index := Scalar.indexCast v1079
  ![v1080.toNat]

def k0_chk95 (v1085 : IVec S16 32) (v1087 : IVec S16 32) : Prop :=
  (∀ a x, ((![v1085, v1087] : Fin 2 → IVec S16 32) a x).toNat < S160x128.size a)
theorem k0_idx95_inb : ∀ (v1085 : IVec S16 32) (v1087 : IVec S16 32) (k0_hw95 : k0_chk95 v1085 v1087), ∀ a x, ((![v1085, v1087] : Fin 2 → IVec S16 32) a x).toNat < S160x128.size a := fun v1085 v1087 k0_hw95 => k0_hw95
def k0_off107 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_408 : BitVec 32 := 125#32
  let v1088 : BitVec 32 := Scalar.muli arg8 c125_i32_408
  let c95_i32 : BitVec 32 := 95#32
  let v1089 : BitVec 32 := Scalar.addi v1088 c95_i32
  let c16_i32_409 : BitVec 32 := 16#32
  let v1090 : BitVec 32 := Scalar.muli v1089 c16_i32_409
  let v1091 : Index := Scalar.indexCast v1090
  ![v1091.toNat]

def k0_chk96 (v1096 : IVec S16 32) (v1098 : IVec S16 32) : Prop :=
  (∀ a x, ((![v1096, v1098] : Fin 2 → IVec S16 32) a x).toNat < S160x128.size a)
theorem k0_idx96_inb : ∀ (v1096 : IVec S16 32) (v1098 : IVec S16 32) (k0_hw96 : k0_chk96 v1096 v1098), ∀ a x, ((![v1096, v1098] : Fin 2 → IVec S16 32) a x).toNat < S160x128.size a := fun v1096 v1098 k0_hw96 => k0_hw96
def k0_off108 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_412 : BitVec 32 := 125#32
  let v1099 : BitVec 32 := Scalar.muli arg8 c125_i32_412
  let c96_i32 : BitVec 32 := 96#32
  let v1100 : BitVec 32 := Scalar.addi v1099 c96_i32
  let c16_i32_413 : BitVec 32 := 16#32
  let v1101 : BitVec 32 := Scalar.muli v1100 c16_i32_413
  let v1102 : Index := Scalar.indexCast v1101
  ![v1102.toNat]

def k0_chk97 (v1107 : IVec S16 32) (v1109 : IVec S16 32) : Prop :=
  (∀ a x, ((![v1107, v1109] : Fin 2 → IVec S16 32) a x).toNat < S160x128.size a)
theorem k0_idx97_inb : ∀ (v1107 : IVec S16 32) (v1109 : IVec S16 32) (k0_hw97 : k0_chk97 v1107 v1109), ∀ a x, ((![v1107, v1109] : Fin 2 → IVec S16 32) a x).toNat < S160x128.size a := fun v1107 v1109 k0_hw97 => k0_hw97
def k0_off109 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_416 : BitVec 32 := 125#32
  let v1110 : BitVec 32 := Scalar.muli arg8 c125_i32_416
  let c97_i32 : BitVec 32 := 97#32
  let v1111 : BitVec 32 := Scalar.addi v1110 c97_i32
  let c16_i32_417 : BitVec 32 := 16#32
  let v1112 : BitVec 32 := Scalar.muli v1111 c16_i32_417
  let v1113 : Index := Scalar.indexCast v1112
  ![v1113.toNat]

def k0_chk98 (v1118 : IVec S16 32) (v1120 : IVec S16 32) : Prop :=
  (∀ a x, ((![v1118, v1120] : Fin 2 → IVec S16 32) a x).toNat < S160x128.size a)
theorem k0_idx98_inb : ∀ (v1118 : IVec S16 32) (v1120 : IVec S16 32) (k0_hw98 : k0_chk98 v1118 v1120), ∀ a x, ((![v1118, v1120] : Fin 2 → IVec S16 32) a x).toNat < S160x128.size a := fun v1118 v1120 k0_hw98 => k0_hw98
def k0_off110 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_420 : BitVec 32 := 125#32
  let v1121 : BitVec 32 := Scalar.muli arg8 c125_i32_420
  let c98_i32 : BitVec 32 := 98#32
  let v1122 : BitVec 32 := Scalar.addi v1121 c98_i32
  let c16_i32_421 : BitVec 32 := 16#32
  let v1123 : BitVec 32 := Scalar.muli v1122 c16_i32_421
  let v1124 : Index := Scalar.indexCast v1123
  ![v1124.toNat]

def k0_chk99 (v1129 : IVec S16 32) (v1131 : IVec S16 32) : Prop :=
  (∀ a x, ((![v1129, v1131] : Fin 2 → IVec S16 32) a x).toNat < S160x128.size a)
theorem k0_idx99_inb : ∀ (v1129 : IVec S16 32) (v1131 : IVec S16 32) (k0_hw99 : k0_chk99 v1129 v1131), ∀ a x, ((![v1129, v1131] : Fin 2 → IVec S16 32) a x).toNat < S160x128.size a := fun v1129 v1131 k0_hw99 => k0_hw99
def k0_off111 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_424 : BitVec 32 := 125#32
  let v1132 : BitVec 32 := Scalar.muli arg8 c125_i32_424
  let c99_i32 : BitVec 32 := 99#32
  let v1133 : BitVec 32 := Scalar.addi v1132 c99_i32
  let c16_i32_425 : BitVec 32 := 16#32
  let v1134 : BitVec 32 := Scalar.muli v1133 c16_i32_425
  let v1135 : Index := Scalar.indexCast v1134
  ![v1135.toNat]

def k0_chk100 (v1140 : IVec S16 32) (v1142 : IVec S16 32) : Prop :=
  (∀ a x, ((![v1140, v1142] : Fin 2 → IVec S16 32) a x).toNat < S160x128.size a)
theorem k0_idx100_inb : ∀ (v1140 : IVec S16 32) (v1142 : IVec S16 32) (k0_hw100 : k0_chk100 v1140 v1142), ∀ a x, ((![v1140, v1142] : Fin 2 → IVec S16 32) a x).toNat < S160x128.size a := fun v1140 v1142 k0_hw100 => k0_hw100
def k0_off112 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_428 : BitVec 32 := 125#32
  let v1143 : BitVec 32 := Scalar.muli arg8 c125_i32_428
  let c100_i32 : BitVec 32 := 100#32
  let v1144 : BitVec 32 := Scalar.addi v1143 c100_i32
  let c16_i32_429 : BitVec 32 := 16#32
  let v1145 : BitVec 32 := Scalar.muli v1144 c16_i32_429
  let v1146 : Index := Scalar.indexCast v1145
  ![v1146.toNat]

def k0_chk101 (v1151 : IVec S16 32) (v1153 : IVec S16 32) : Prop :=
  (∀ a x, ((![v1151, v1153] : Fin 2 → IVec S16 32) a x).toNat < S160x128.size a)
theorem k0_idx101_inb : ∀ (v1151 : IVec S16 32) (v1153 : IVec S16 32) (k0_hw101 : k0_chk101 v1151 v1153), ∀ a x, ((![v1151, v1153] : Fin 2 → IVec S16 32) a x).toNat < S160x128.size a := fun v1151 v1153 k0_hw101 => k0_hw101
def k0_off113 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_432 : BitVec 32 := 125#32
  let v1154 : BitVec 32 := Scalar.muli arg8 c125_i32_432
  let c101_i32 : BitVec 32 := 101#32
  let v1155 : BitVec 32 := Scalar.addi v1154 c101_i32
  let c16_i32_433 : BitVec 32 := 16#32
  let v1156 : BitVec 32 := Scalar.muli v1155 c16_i32_433
  let v1157 : Index := Scalar.indexCast v1156
  ![v1157.toNat]

def k0_chk102 (v1162 : IVec S16 32) (v1164 : IVec S16 32) : Prop :=
  (∀ a x, ((![v1162, v1164] : Fin 2 → IVec S16 32) a x).toNat < S160x128.size a)
theorem k0_idx102_inb : ∀ (v1162 : IVec S16 32) (v1164 : IVec S16 32) (k0_hw102 : k0_chk102 v1162 v1164), ∀ a x, ((![v1162, v1164] : Fin 2 → IVec S16 32) a x).toNat < S160x128.size a := fun v1162 v1164 k0_hw102 => k0_hw102
def k0_off114 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_436 : BitVec 32 := 125#32
  let v1165 : BitVec 32 := Scalar.muli arg8 c125_i32_436
  let c102_i32 : BitVec 32 := 102#32
  let v1166 : BitVec 32 := Scalar.addi v1165 c102_i32
  let c16_i32_437 : BitVec 32 := 16#32
  let v1167 : BitVec 32 := Scalar.muli v1166 c16_i32_437
  let v1168 : Index := Scalar.indexCast v1167
  ![v1168.toNat]

def k0_chk103 (v1173 : IVec S16 32) (v1175 : IVec S16 32) : Prop :=
  (∀ a x, ((![v1173, v1175] : Fin 2 → IVec S16 32) a x).toNat < S160x128.size a)
theorem k0_idx103_inb : ∀ (v1173 : IVec S16 32) (v1175 : IVec S16 32) (k0_hw103 : k0_chk103 v1173 v1175), ∀ a x, ((![v1173, v1175] : Fin 2 → IVec S16 32) a x).toNat < S160x128.size a := fun v1173 v1175 k0_hw103 => k0_hw103
def k0_off115 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_440 : BitVec 32 := 125#32
  let v1176 : BitVec 32 := Scalar.muli arg8 c125_i32_440
  let c103_i32 : BitVec 32 := 103#32
  let v1177 : BitVec 32 := Scalar.addi v1176 c103_i32
  let c16_i32_441 : BitVec 32 := 16#32
  let v1178 : BitVec 32 := Scalar.muli v1177 c16_i32_441
  let v1179 : Index := Scalar.indexCast v1178
  ![v1179.toNat]

def k0_chk104 (v1184 : IVec S16 32) (v1186 : IVec S16 32) : Prop :=
  (∀ a x, ((![v1184, v1186] : Fin 2 → IVec S16 32) a x).toNat < S160x128.size a)
theorem k0_idx104_inb : ∀ (v1184 : IVec S16 32) (v1186 : IVec S16 32) (k0_hw104 : k0_chk104 v1184 v1186), ∀ a x, ((![v1184, v1186] : Fin 2 → IVec S16 32) a x).toNat < S160x128.size a := fun v1184 v1186 k0_hw104 => k0_hw104
def k0_off116 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_444 : BitVec 32 := 125#32
  let v1187 : BitVec 32 := Scalar.muli arg8 c125_i32_444
  let c104_i32 : BitVec 32 := 104#32
  let v1188 : BitVec 32 := Scalar.addi v1187 c104_i32
  let c16_i32_445 : BitVec 32 := 16#32
  let v1189 : BitVec 32 := Scalar.muli v1188 c16_i32_445
  let v1190 : Index := Scalar.indexCast v1189
  ![v1190.toNat]

def k0_chk105 (v1195 : IVec S16 32) (v1197 : IVec S16 32) : Prop :=
  (∀ a x, ((![v1195, v1197] : Fin 2 → IVec S16 32) a x).toNat < S160x128.size a)
theorem k0_idx105_inb : ∀ (v1195 : IVec S16 32) (v1197 : IVec S16 32) (k0_hw105 : k0_chk105 v1195 v1197), ∀ a x, ((![v1195, v1197] : Fin 2 → IVec S16 32) a x).toNat < S160x128.size a := fun v1195 v1197 k0_hw105 => k0_hw105
def k0_off117 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_448 : BitVec 32 := 125#32
  let v1198 : BitVec 32 := Scalar.muli arg8 c125_i32_448
  let c105_i32 : BitVec 32 := 105#32
  let v1199 : BitVec 32 := Scalar.addi v1198 c105_i32
  let c16_i32_449 : BitVec 32 := 16#32
  let v1200 : BitVec 32 := Scalar.muli v1199 c16_i32_449
  let v1201 : Index := Scalar.indexCast v1200
  ![v1201.toNat]

def k0_chk106 (v1206 : IVec S16 32) (v1208 : IVec S16 32) : Prop :=
  (∀ a x, ((![v1206, v1208] : Fin 2 → IVec S16 32) a x).toNat < S160x128.size a)
theorem k0_idx106_inb : ∀ (v1206 : IVec S16 32) (v1208 : IVec S16 32) (k0_hw106 : k0_chk106 v1206 v1208), ∀ a x, ((![v1206, v1208] : Fin 2 → IVec S16 32) a x).toNat < S160x128.size a := fun v1206 v1208 k0_hw106 => k0_hw106
def k0_off118 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_452 : BitVec 32 := 125#32
  let v1209 : BitVec 32 := Scalar.muli arg8 c125_i32_452
  let c106_i32 : BitVec 32 := 106#32
  let v1210 : BitVec 32 := Scalar.addi v1209 c106_i32
  let c16_i32_453 : BitVec 32 := 16#32
  let v1211 : BitVec 32 := Scalar.muli v1210 c16_i32_453
  let v1212 : Index := Scalar.indexCast v1211
  ![v1212.toNat]

def k0_chk107 (v1217 : IVec S16 32) (v1219 : IVec S16 32) : Prop :=
  (∀ a x, ((![v1217, v1219] : Fin 2 → IVec S16 32) a x).toNat < S160x128.size a)
theorem k0_idx107_inb : ∀ (v1217 : IVec S16 32) (v1219 : IVec S16 32) (k0_hw107 : k0_chk107 v1217 v1219), ∀ a x, ((![v1217, v1219] : Fin 2 → IVec S16 32) a x).toNat < S160x128.size a := fun v1217 v1219 k0_hw107 => k0_hw107
def k0_off119 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_456 : BitVec 32 := 125#32
  let v1220 : BitVec 32 := Scalar.muli arg8 c125_i32_456
  let c107_i32 : BitVec 32 := 107#32
  let v1221 : BitVec 32 := Scalar.addi v1220 c107_i32
  let c16_i32_457 : BitVec 32 := 16#32
  let v1222 : BitVec 32 := Scalar.muli v1221 c16_i32_457
  let v1223 : Index := Scalar.indexCast v1222
  ![v1223.toNat]

def k0_chk108 (v1228 : IVec S16 32) (v1230 : IVec S16 32) : Prop :=
  (∀ a x, ((![v1228, v1230] : Fin 2 → IVec S16 32) a x).toNat < S160x128.size a)
theorem k0_idx108_inb : ∀ (v1228 : IVec S16 32) (v1230 : IVec S16 32) (k0_hw108 : k0_chk108 v1228 v1230), ∀ a x, ((![v1228, v1230] : Fin 2 → IVec S16 32) a x).toNat < S160x128.size a := fun v1228 v1230 k0_hw108 => k0_hw108
def k0_off120 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_460 : BitVec 32 := 125#32
  let v1231 : BitVec 32 := Scalar.muli arg8 c125_i32_460
  let c108_i32 : BitVec 32 := 108#32
  let v1232 : BitVec 32 := Scalar.addi v1231 c108_i32
  let c16_i32_461 : BitVec 32 := 16#32
  let v1233 : BitVec 32 := Scalar.muli v1232 c16_i32_461
  let v1234 : Index := Scalar.indexCast v1233
  ![v1234.toNat]

def k0_chk109 (v1239 : IVec S16 32) (v1241 : IVec S16 32) : Prop :=
  (∀ a x, ((![v1239, v1241] : Fin 2 → IVec S16 32) a x).toNat < S160x128.size a)
theorem k0_idx109_inb : ∀ (v1239 : IVec S16 32) (v1241 : IVec S16 32) (k0_hw109 : k0_chk109 v1239 v1241), ∀ a x, ((![v1239, v1241] : Fin 2 → IVec S16 32) a x).toNat < S160x128.size a := fun v1239 v1241 k0_hw109 => k0_hw109
def k0_off121 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_464 : BitVec 32 := 125#32
  let v1242 : BitVec 32 := Scalar.muli arg8 c125_i32_464
  let c109_i32 : BitVec 32 := 109#32
  let v1243 : BitVec 32 := Scalar.addi v1242 c109_i32
  let c16_i32_465 : BitVec 32 := 16#32
  let v1244 : BitVec 32 := Scalar.muli v1243 c16_i32_465
  let v1245 : Index := Scalar.indexCast v1244
  ![v1245.toNat]

def k0_chk110 (v1250 : IVec S16 32) (v1252 : IVec S16 32) : Prop :=
  (∀ a x, ((![v1250, v1252] : Fin 2 → IVec S16 32) a x).toNat < S160x128.size a)
theorem k0_idx110_inb : ∀ (v1250 : IVec S16 32) (v1252 : IVec S16 32) (k0_hw110 : k0_chk110 v1250 v1252), ∀ a x, ((![v1250, v1252] : Fin 2 → IVec S16 32) a x).toNat < S160x128.size a := fun v1250 v1252 k0_hw110 => k0_hw110
def k0_off122 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_468 : BitVec 32 := 125#32
  let v1253 : BitVec 32 := Scalar.muli arg8 c125_i32_468
  let c110_i32 : BitVec 32 := 110#32
  let v1254 : BitVec 32 := Scalar.addi v1253 c110_i32
  let c16_i32_469 : BitVec 32 := 16#32
  let v1255 : BitVec 32 := Scalar.muli v1254 c16_i32_469
  let v1256 : Index := Scalar.indexCast v1255
  ![v1256.toNat]

def k0_chk111 (v1261 : IVec S16 32) (v1263 : IVec S16 32) : Prop :=
  (∀ a x, ((![v1261, v1263] : Fin 2 → IVec S16 32) a x).toNat < S160x128.size a)
theorem k0_idx111_inb : ∀ (v1261 : IVec S16 32) (v1263 : IVec S16 32) (k0_hw111 : k0_chk111 v1261 v1263), ∀ a x, ((![v1261, v1263] : Fin 2 → IVec S16 32) a x).toNat < S160x128.size a := fun v1261 v1263 k0_hw111 => k0_hw111
def k0_off123 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_472 : BitVec 32 := 125#32
  let v1264 : BitVec 32 := Scalar.muli arg8 c125_i32_472
  let c111_i32 : BitVec 32 := 111#32
  let v1265 : BitVec 32 := Scalar.addi v1264 c111_i32
  let c16_i32_473 : BitVec 32 := 16#32
  let v1266 : BitVec 32 := Scalar.muli v1265 c16_i32_473
  let v1267 : Index := Scalar.indexCast v1266
  ![v1267.toNat]

def k0_chk112 (v1272 : IVec S16 32) (v1274 : IVec S16 32) : Prop :=
  (∀ a x, ((![v1272, v1274] : Fin 2 → IVec S16 32) a x).toNat < S160x128.size a)
theorem k0_idx112_inb : ∀ (v1272 : IVec S16 32) (v1274 : IVec S16 32) (k0_hw112 : k0_chk112 v1272 v1274), ∀ a x, ((![v1272, v1274] : Fin 2 → IVec S16 32) a x).toNat < S160x128.size a := fun v1272 v1274 k0_hw112 => k0_hw112
def k0_off124 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_476 : BitVec 32 := 125#32
  let v1275 : BitVec 32 := Scalar.muli arg8 c125_i32_476
  let c112_i32 : BitVec 32 := 112#32
  let v1276 : BitVec 32 := Scalar.addi v1275 c112_i32
  let c16_i32_477 : BitVec 32 := 16#32
  let v1277 : BitVec 32 := Scalar.muli v1276 c16_i32_477
  let v1278 : Index := Scalar.indexCast v1277
  ![v1278.toNat]

def k0_chk113 (v1283 : IVec S16 32) (v1285 : IVec S16 32) : Prop :=
  (∀ a x, ((![v1283, v1285] : Fin 2 → IVec S16 32) a x).toNat < S160x128.size a)
theorem k0_idx113_inb : ∀ (v1283 : IVec S16 32) (v1285 : IVec S16 32) (k0_hw113 : k0_chk113 v1283 v1285), ∀ a x, ((![v1283, v1285] : Fin 2 → IVec S16 32) a x).toNat < S160x128.size a := fun v1283 v1285 k0_hw113 => k0_hw113
def k0_off125 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_480 : BitVec 32 := 125#32
  let v1286 : BitVec 32 := Scalar.muli arg8 c125_i32_480
  let c113_i32 : BitVec 32 := 113#32
  let v1287 : BitVec 32 := Scalar.addi v1286 c113_i32
  let c16_i32_481 : BitVec 32 := 16#32
  let v1288 : BitVec 32 := Scalar.muli v1287 c16_i32_481
  let v1289 : Index := Scalar.indexCast v1288
  ![v1289.toNat]

def k0_chk114 (v1294 : IVec S16 32) (v1296 : IVec S16 32) : Prop :=
  (∀ a x, ((![v1294, v1296] : Fin 2 → IVec S16 32) a x).toNat < S160x128.size a)
theorem k0_idx114_inb : ∀ (v1294 : IVec S16 32) (v1296 : IVec S16 32) (k0_hw114 : k0_chk114 v1294 v1296), ∀ a x, ((![v1294, v1296] : Fin 2 → IVec S16 32) a x).toNat < S160x128.size a := fun v1294 v1296 k0_hw114 => k0_hw114
def k0_off126 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_484 : BitVec 32 := 125#32
  let v1297 : BitVec 32 := Scalar.muli arg8 c125_i32_484
  let c114_i32 : BitVec 32 := 114#32
  let v1298 : BitVec 32 := Scalar.addi v1297 c114_i32
  let c16_i32_485 : BitVec 32 := 16#32
  let v1299 : BitVec 32 := Scalar.muli v1298 c16_i32_485
  let v1300 : Index := Scalar.indexCast v1299
  ![v1300.toNat]

def k0_chk115 (v1305 : IVec S16 32) (v1307 : IVec S16 32) : Prop :=
  (∀ a x, ((![v1305, v1307] : Fin 2 → IVec S16 32) a x).toNat < S160x128.size a)
theorem k0_idx115_inb : ∀ (v1305 : IVec S16 32) (v1307 : IVec S16 32) (k0_hw115 : k0_chk115 v1305 v1307), ∀ a x, ((![v1305, v1307] : Fin 2 → IVec S16 32) a x).toNat < S160x128.size a := fun v1305 v1307 k0_hw115 => k0_hw115
def k0_off127 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_488 : BitVec 32 := 125#32
  let v1308 : BitVec 32 := Scalar.muli arg8 c125_i32_488
  let c115_i32 : BitVec 32 := 115#32
  let v1309 : BitVec 32 := Scalar.addi v1308 c115_i32
  let c16_i32_489 : BitVec 32 := 16#32
  let v1310 : BitVec 32 := Scalar.muli v1309 c16_i32_489
  let v1311 : Index := Scalar.indexCast v1310
  ![v1311.toNat]

def k0_chk116 (v1316 : IVec S16 32) (v1318 : IVec S16 32) : Prop :=
  (∀ a x, ((![v1316, v1318] : Fin 2 → IVec S16 32) a x).toNat < S160x128.size a)
theorem k0_idx116_inb : ∀ (v1316 : IVec S16 32) (v1318 : IVec S16 32) (k0_hw116 : k0_chk116 v1316 v1318), ∀ a x, ((![v1316, v1318] : Fin 2 → IVec S16 32) a x).toNat < S160x128.size a := fun v1316 v1318 k0_hw116 => k0_hw116
def k0_off128 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_492 : BitVec 32 := 125#32
  let v1319 : BitVec 32 := Scalar.muli arg8 c125_i32_492
  let c116_i32 : BitVec 32 := 116#32
  let v1320 : BitVec 32 := Scalar.addi v1319 c116_i32
  let c16_i32_493 : BitVec 32 := 16#32
  let v1321 : BitVec 32 := Scalar.muli v1320 c16_i32_493
  let v1322 : Index := Scalar.indexCast v1321
  ![v1322.toNat]

def k0_chk117 (v1327 : IVec S16 32) (v1329 : IVec S16 32) : Prop :=
  (∀ a x, ((![v1327, v1329] : Fin 2 → IVec S16 32) a x).toNat < S160x128.size a)
theorem k0_idx117_inb : ∀ (v1327 : IVec S16 32) (v1329 : IVec S16 32) (k0_hw117 : k0_chk117 v1327 v1329), ∀ a x, ((![v1327, v1329] : Fin 2 → IVec S16 32) a x).toNat < S160x128.size a := fun v1327 v1329 k0_hw117 => k0_hw117
def k0_off129 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_496 : BitVec 32 := 125#32
  let v1330 : BitVec 32 := Scalar.muli arg8 c125_i32_496
  let c117_i32 : BitVec 32 := 117#32
  let v1331 : BitVec 32 := Scalar.addi v1330 c117_i32
  let c16_i32_497 : BitVec 32 := 16#32
  let v1332 : BitVec 32 := Scalar.muli v1331 c16_i32_497
  let v1333 : Index := Scalar.indexCast v1332
  ![v1333.toNat]

def k0_chk118 (v1338 : IVec S16 32) (v1340 : IVec S16 32) : Prop :=
  (∀ a x, ((![v1338, v1340] : Fin 2 → IVec S16 32) a x).toNat < S160x128.size a)
theorem k0_idx118_inb : ∀ (v1338 : IVec S16 32) (v1340 : IVec S16 32) (k0_hw118 : k0_chk118 v1338 v1340), ∀ a x, ((![v1338, v1340] : Fin 2 → IVec S16 32) a x).toNat < S160x128.size a := fun v1338 v1340 k0_hw118 => k0_hw118
def k0_off130 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_500 : BitVec 32 := 125#32
  let v1341 : BitVec 32 := Scalar.muli arg8 c125_i32_500
  let c118_i32 : BitVec 32 := 118#32
  let v1342 : BitVec 32 := Scalar.addi v1341 c118_i32
  let c16_i32_501 : BitVec 32 := 16#32
  let v1343 : BitVec 32 := Scalar.muli v1342 c16_i32_501
  let v1344 : Index := Scalar.indexCast v1343
  ![v1344.toNat]

def k0_chk119 (v1349 : IVec S16 32) (v1351 : IVec S16 32) : Prop :=
  (∀ a x, ((![v1349, v1351] : Fin 2 → IVec S16 32) a x).toNat < S160x128.size a)
theorem k0_idx119_inb : ∀ (v1349 : IVec S16 32) (v1351 : IVec S16 32) (k0_hw119 : k0_chk119 v1349 v1351), ∀ a x, ((![v1349, v1351] : Fin 2 → IVec S16 32) a x).toNat < S160x128.size a := fun v1349 v1351 k0_hw119 => k0_hw119
def k0_off131 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_504 : BitVec 32 := 125#32
  let v1352 : BitVec 32 := Scalar.muli arg8 c125_i32_504
  let c119_i32 : BitVec 32 := 119#32
  let v1353 : BitVec 32 := Scalar.addi v1352 c119_i32
  let c16_i32_505 : BitVec 32 := 16#32
  let v1354 : BitVec 32 := Scalar.muli v1353 c16_i32_505
  let v1355 : Index := Scalar.indexCast v1354
  ![v1355.toNat]

def k0_chk120 (v1360 : IVec S16 32) (v1362 : IVec S16 32) : Prop :=
  (∀ a x, ((![v1360, v1362] : Fin 2 → IVec S16 32) a x).toNat < S160x128.size a)
theorem k0_idx120_inb : ∀ (v1360 : IVec S16 32) (v1362 : IVec S16 32) (k0_hw120 : k0_chk120 v1360 v1362), ∀ a x, ((![v1360, v1362] : Fin 2 → IVec S16 32) a x).toNat < S160x128.size a := fun v1360 v1362 k0_hw120 => k0_hw120
def k0_off132 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_508 : BitVec 32 := 125#32
  let v1363 : BitVec 32 := Scalar.muli arg8 c125_i32_508
  let c120_i32 : BitVec 32 := 120#32
  let v1364 : BitVec 32 := Scalar.addi v1363 c120_i32
  let c16_i32_509 : BitVec 32 := 16#32
  let v1365 : BitVec 32 := Scalar.muli v1364 c16_i32_509
  let v1366 : Index := Scalar.indexCast v1365
  ![v1366.toNat]

def k0_chk121 (v1371 : IVec S16 32) (v1373 : IVec S16 32) : Prop :=
  (∀ a x, ((![v1371, v1373] : Fin 2 → IVec S16 32) a x).toNat < S160x128.size a)
theorem k0_idx121_inb : ∀ (v1371 : IVec S16 32) (v1373 : IVec S16 32) (k0_hw121 : k0_chk121 v1371 v1373), ∀ a x, ((![v1371, v1373] : Fin 2 → IVec S16 32) a x).toNat < S160x128.size a := fun v1371 v1373 k0_hw121 => k0_hw121
def k0_off133 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_512 : BitVec 32 := 125#32
  let v1374 : BitVec 32 := Scalar.muli arg8 c125_i32_512
  let c121_i32 : BitVec 32 := 121#32
  let v1375 : BitVec 32 := Scalar.addi v1374 c121_i32
  let c16_i32_513 : BitVec 32 := 16#32
  let v1376 : BitVec 32 := Scalar.muli v1375 c16_i32_513
  let v1377 : Index := Scalar.indexCast v1376
  ![v1377.toNat]

def k0_chk122 (v1382 : IVec S16 32) (v1384 : IVec S16 32) : Prop :=
  (∀ a x, ((![v1382, v1384] : Fin 2 → IVec S16 32) a x).toNat < S160x128.size a)
theorem k0_idx122_inb : ∀ (v1382 : IVec S16 32) (v1384 : IVec S16 32) (k0_hw122 : k0_chk122 v1382 v1384), ∀ a x, ((![v1382, v1384] : Fin 2 → IVec S16 32) a x).toNat < S160x128.size a := fun v1382 v1384 k0_hw122 => k0_hw122
def k0_off134 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_516 : BitVec 32 := 125#32
  let v1385 : BitVec 32 := Scalar.muli arg8 c125_i32_516
  let c122_i32 : BitVec 32 := 122#32
  let v1386 : BitVec 32 := Scalar.addi v1385 c122_i32
  let c16_i32_517 : BitVec 32 := 16#32
  let v1387 : BitVec 32 := Scalar.muli v1386 c16_i32_517
  let v1388 : Index := Scalar.indexCast v1387
  ![v1388.toNat]

def k0_chk123 (v1393 : IVec S16 32) (v1395 : IVec S16 32) : Prop :=
  (∀ a x, ((![v1393, v1395] : Fin 2 → IVec S16 32) a x).toNat < S160x128.size a)
theorem k0_idx123_inb : ∀ (v1393 : IVec S16 32) (v1395 : IVec S16 32) (k0_hw123 : k0_chk123 v1393 v1395), ∀ a x, ((![v1393, v1395] : Fin 2 → IVec S16 32) a x).toNat < S160x128.size a := fun v1393 v1395 k0_hw123 => k0_hw123
def k0_off135 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_520 : BitVec 32 := 125#32
  let v1396 : BitVec 32 := Scalar.muli arg8 c125_i32_520
  let c123_i32 : BitVec 32 := 123#32
  let v1397 : BitVec 32 := Scalar.addi v1396 c123_i32
  let c16_i32_521 : BitVec 32 := 16#32
  let v1398 : BitVec 32 := Scalar.muli v1397 c16_i32_521
  let v1399 : Index := Scalar.indexCast v1398
  ![v1399.toNat]

def k0_chk124 (v1404 : IVec S16 32) (v1406 : IVec S16 32) : Prop :=
  (∀ a x, ((![v1404, v1406] : Fin 2 → IVec S16 32) a x).toNat < S160x128.size a)
theorem k0_idx124_inb : ∀ (v1404 : IVec S16 32) (v1406 : IVec S16 32) (k0_hw124 : k0_chk124 v1404 v1406), ∀ a x, ((![v1404, v1406] : Fin 2 → IVec S16 32) a x).toNat < S160x128.size a := fun v1404 v1406 k0_hw124 => k0_hw124
def k0_off136 (k0_t2 : Fin k0_t2_loop.trips) : Fin 1 → Nat :=
  let c0_i32_21 : BitVec 32 := 0#32
  let c1_i32_22 : BitVec 32 := 1#32
  let arg8 : BitVec 32 := Scf.iv c0_i32_21 c1_i32_22 k0_t2
  let c125_i32_524 : BitVec 32 := 125#32
  let v1407 : BitVec 32 := Scalar.muli arg8 c125_i32_524
  let c124_i32 : BitVec 32 := 124#32
  let v1408 : BitVec 32 := Scalar.addi v1407 c124_i32
  let c16_i32_525 : BitVec 32 := 16#32
  let v1409 : BitVec 32 := Scalar.muli v1408 c16_i32_525
  let v1410 : Index := Scalar.indexCast v1409
  ![v1410.toNat]

def k0_chk125 (v1415 : IVec S16 32) (v1417 : IVec S16 32) : Prop :=
  (∀ a x, ((![v1415, v1417] : Fin 2 → IVec S16 32) a x).toNat < S160x128.size a)
theorem k0_idx125_inb : ∀ (v1415 : IVec S16 32) (v1417 : IVec S16 32) (k0_hw125 : k0_chk125 v1415 v1417), ∀ a x, ((![v1415, v1417] : Fin 2 → IVec S16 32) a x).toNat < S160x128.size a := fun v1415 v1417 k0_hw125 => k0_hw125
def k0_off137 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_24_r0 : BitVec 32 := 0#32
  let c0_i32_25_r0 : BitVec 32 := 0#32
  ![v1.toNat, 0, 0]
abbrev grid1 : Pipeline.Grid := ⟨1, ![10], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  let c0_i32_1 : BitVec 32 := 0#32
  ![c0_i32.toNat, v0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S32x8x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x8x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8x1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x10000x256 : Shape := ⟨3, ![8, 10000, 256]⟩
abbrev S160000x2 : Shape := ⟨2, ![160000, 2]⟩
abbrev S64x256 : Shape := ⟨2, ![64, 256]⟩
abbrev S160000x1 : Shape := ⟨2, ![160000, 1]⟩
abbrev S160000 : Shape := ⟨1, ![160000]⟩
abbrev S_ : Shape := ⟨0, ![]⟩
abbrev S10000 : Shape := ⟨1, ![10000]⟩
abbrev S10000x1 : Shape := ⟨2, ![10000, 1]⟩
abbrev S1 : Shape := ⟨1, ![1]⟩
abbrev S1x1 : Shape := ⟨2, ![1, 1]⟩
abbrev S10000x256 : Shape := ⟨2, ![10000, 256]⟩
abbrev S9999x256 : Shape := ⟨2, ![9999, 256]⟩
abbrev S1x9999x256 : Shape := ⟨3, ![1, 9999, 256]⟩
abbrev S8x9999x256 : Shape := ⟨3, ![8, 9999, 256]⟩

abbrev nBuf : Space → Nat
  | .hbm => 93
  | .vmem => 0
  | .smem => 0
  | _ => 0

abbrev bufTy : (tb : Table) → Fin (tcTables nBuf tb) → BufTy
  | .hbm, ⟨0, _⟩ => ⟨S8x10000x256, .f32⟩
  | .hbm, ⟨1, _⟩ => ⟨S160000x2, .i32⟩
  | .hbm, ⟨2, _⟩ => ⟨S64x256, .f32⟩
  | .hbm, ⟨3, _⟩ => ⟨S64x256, .f32⟩
  | .hbm, ⟨4, _⟩ => ⟨S160000x1, .i32⟩
  | .hbm, ⟨5, _⟩ => ⟨S160000, .i32⟩
  | .hbm, ⟨6, _⟩ => ⟨S160000x1, .i32⟩
  | .hbm, ⟨7, _⟩ => ⟨S160000, .i32⟩
  | .hbm, ⟨8, _⟩ => ⟨S_, .i32⟩
  | .hbm, ⟨9, _⟩ => ⟨S160000, .i32⟩
  | .hbm, ⟨10, _⟩ => ⟨S160000, .i1⟩
  | .hbm, ⟨11, _⟩ => ⟨S_, .i32⟩
  | .hbm, ⟨12, _⟩ => ⟨S160000, .i32⟩
  | .hbm, ⟨13, _⟩ => ⟨S160000, .i1⟩
  | .hbm, ⟨14, _⟩ => ⟨S_, .i32⟩
  | .hbm, ⟨15, _⟩ => ⟨S_, .i32⟩
  | .hbm, ⟨16, _⟩ => ⟨S160000, .i32⟩
  | .hbm, ⟨17, _⟩ => ⟨S160000, .i32⟩
  | .hbm, ⟨18, _⟩ => ⟨S160000, .f32⟩
  | .hbm, ⟨19, _⟩ => ⟨S_, .f32⟩
  | .hbm, ⟨20, _⟩ => ⟨S10000, .f32⟩
  | .hbm, ⟨21, _⟩ => ⟨S160000x1, .i32⟩
  | .hbm, ⟨22, _⟩ => ⟨S10000, .f32⟩
  | .hbm, ⟨23, _⟩ => ⟨S10000, .i32⟩
  | .hbm, ⟨24, _⟩ => ⟨S_, .i32⟩
  | .hbm, ⟨25, _⟩ => ⟨S10000, .i32⟩
  | .hbm, ⟨26, _⟩ => ⟨S10000, .i32⟩
  | .hbm, ⟨27, _⟩ => ⟨S_, .i32⟩
  | .hbm, ⟨28, _⟩ => ⟨S_, .i32⟩
  | .hbm, ⟨29, _⟩ => ⟨S160000, .i32⟩
  | .hbm, ⟨30, _⟩ => ⟨S160000, .i32⟩
  | .hbm, ⟨31, _⟩ => ⟨S160000, .f32⟩
  | .hbm, ⟨32, _⟩ => ⟨S_, .f32⟩
  | .hbm, ⟨33, _⟩ => ⟨S10000, .f32⟩
  | .hbm, ⟨34, _⟩ => ⟨S160000x1, .i32⟩
  | .hbm, ⟨35, _⟩ => ⟨S10000, .f32⟩
  | .hbm, ⟨36, _⟩ => ⟨S10000, .i32⟩
  | .hbm, ⟨37, _⟩ => ⟨S_, .i32⟩
  | .hbm, ⟨38, _⟩ => ⟨S10000, .i32⟩
  | .hbm, ⟨39, _⟩ => ⟨S10000, .i32⟩
  | .hbm, ⟨40, _⟩ => ⟨S_, .i32⟩
  | .hbm, ⟨41, _⟩ => ⟨S10000, .i32⟩
  | .hbm, ⟨42, _⟩ => ⟨S10000, .i1⟩
  | .hbm, ⟨43, _⟩ => ⟨S_, .i32⟩
  | .hbm, ⟨44, _⟩ => ⟨S10000, .i32⟩
  | .hbm, ⟨45, _⟩ => ⟨S10000, .i32⟩
  | .hbm, ⟨46, _⟩ => ⟨S10000, .i32⟩
  | .hbm, ⟨47, _⟩ => ⟨S10000x1, .i32⟩
  | .hbm, ⟨48, _⟩ => ⟨S1, .i32⟩
  | .hbm, ⟨49, _⟩ => ⟨S_, .i32⟩
  | .hbm, ⟨50, _⟩ => ⟨S10000x1, .i32⟩
  | .hbm, ⟨51, _⟩ => ⟨S10000x1, .i1⟩
  | .hbm, ⟨52, _⟩ => ⟨S1x1, .i32⟩
  | .hbm, ⟨53, _⟩ => ⟨S10000x1, .i32⟩
  | .hbm, ⟨54, _⟩ => ⟨S10000x1, .i1⟩
  | .hbm, ⟨55, _⟩ => ⟨S10000x1, .i1⟩
  | .hbm, ⟨56, _⟩ => ⟨S_, .i1⟩
  | .hbm, ⟨57, _⟩ => ⟨S10000, .i1⟩
  | .hbm, ⟨58, _⟩ => ⟨S10000x256, .f32⟩
  | .hbm, ⟨59, _⟩ => ⟨S10000x256, .i1⟩
  | .hbm, ⟨60, _⟩ => ⟨S_, .f32⟩
  | .hbm, ⟨61, _⟩ => ⟨S10000x256, .f32⟩
  | .hbm, ⟨62, _⟩ => ⟨S10000x256, .f32⟩
  | .hbm, ⟨63, _⟩ => ⟨S_, .i32⟩
  | .hbm, ⟨64, _⟩ => ⟨S10000, .i32⟩
  | .hbm, ⟨65, _⟩ => ⟨S10000, .i1⟩
  | .hbm, ⟨66, _⟩ => ⟨S_, .i32⟩
  | .hbm, ⟨67, _⟩ => ⟨S10000, .i32⟩
  | .hbm, ⟨68, _⟩ => ⟨S10000, .i32⟩
  | .hbm, ⟨69, _⟩ => ⟨S10000, .i32⟩
  | .hbm, ⟨70, _⟩ => ⟨S10000x1, .i32⟩
  | .hbm, ⟨71, _⟩ => ⟨S1, .i32⟩
  | .hbm, ⟨72, _⟩ => ⟨S_, .i32⟩
  | .hbm, ⟨73, _⟩ => ⟨S10000x1, .i32⟩
  | .hbm, ⟨74, _⟩ => ⟨S10000x1, .i1⟩
  | .hbm, ⟨75, _⟩ => ⟨S1x1, .i32⟩
  | .hbm, ⟨76, _⟩ => ⟨S10000x1, .i32⟩
  | .hbm, ⟨77, _⟩ => ⟨S10000x1, .i1⟩
  | .hbm, ⟨78, _⟩ => ⟨S10000x1, .i1⟩
  | .hbm, ⟨79, _⟩ => ⟨S_, .i1⟩
  | .hbm, ⟨80, _⟩ => ⟨S10000, .i1⟩
  | .hbm, ⟨81, _⟩ => ⟨S10000x256, .f32⟩
  | .hbm, ⟨82, _⟩ => ⟨S10000x256, .i1⟩
  | .hbm, ⟨83, _⟩ => ⟨S_, .f32⟩
  | .hbm, ⟨84, _⟩ => ⟨S10000x256, .f32⟩
  | .hbm, ⟨85, _⟩ => ⟨S10000x256, .f32⟩
  | .hbm, ⟨86, _⟩ => ⟨S10000x256, .f32⟩
  | .hbm, ⟨87, _⟩ => ⟨S9999x256, .f32⟩
  | .hbm, ⟨88, _⟩ => ⟨S1x9999x256, .f32⟩
  | .hbm, ⟨89, _⟩ => ⟨S_, .i32⟩
  | .hbm, ⟨90, _⟩ => ⟨S1, .i32⟩
  | .hbm, ⟨91, _⟩ => ⟨S8x9999x256, .f32⟩
  | .hbm, ⟨92, _⟩ => ⟨S8x10000x256, .f32⟩
  | _, _ => ⟨S8x10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_call1_v0 : Ref sig .tc := ⟨.hbm, 28, rfl⟩
abbrev main_call1_v1 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_v14 : Ref sig .tc := ⟨.hbm, 59, rfl⟩
abbrev main_call2_cst : Ref sig .tc := ⟨.hbm, 60, rfl⟩
abbrev main_call2_v15 : Ref sig .tc := ⟨.hbm, 61, rfl⟩
abbrev main_v24 : Ref sig .tc := ⟨.hbm, 62, rfl⟩
abbrev main_call3_c : Ref sig .tc := ⟨.hbm, 63, rfl⟩
abbrev main_call3_v0 : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_c_1 : Ref sig .tc := ⟨.hbm, 71, rfl⟩
abbrev main_call3_c_2 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_3 : Ref sig .tc := ⟨.hbm, 79, rfl⟩
abbrev main_call3_v12 : Ref sig .tc := ⟨.hbm, 80, rfl⟩
abbrev main_call3_v13 : Ref sig .tc := ⟨.hbm, 81, rfl⟩
abbrev main_call3_v14 : Ref sig .tc := ⟨.hbm, 82, rfl⟩
abbrev main_call3_cst : Ref sig .tc := ⟨.hbm, 83, rfl⟩
abbrev main_call3_v15 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_c_6 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩

abbrev nD : Nat := 1
abbrev τ : Topo := Topo.v7x

variable {F : FTy → Type} [FloatOps F]
-- ==== Proof.Groups.lean ====
/-
  The scatter loop of the SparseCore kernel, read as a chain of equal groups.

  One trip of the loop is 125 groups printed one after another. Each group loads sixteen edge endpoints from the tile's
  own buffer and adds one to the histogram at each of them. Here a group is written once, over its number in the trip,
  and the printed trip is shown to be the chain of the groups `0, …, 124`.
-/
module

public import proofs.«01_k».proof.Proof.Gen.KernelIdeal.Skeleton

@[expose] public section

noncomputable section

namespace Cert.Proof.Groups

open Cert.KernelIdeal Cert.KernelIdeal.Gen
open Idealize.ShloMosaic Idealize.SL.Sem

variable {F : FTy → Type} [FloatOps F]

/-- Where group `u` of trip `t` starts in the tile's buffer of endpoints, computed as the kernel computes it. -/
def gOff (t : Fin k0_t2_loop.trips) (u : ℕ) : Fin 1 → ℕ :=
  ![(Scalar.indexCast (Scalar.muli (Scalar.addi (Scalar.muli (Scf.iv 0#32 1#32 t) 125#32) (BitVec.ofNat 32 u)) 16#32)).toNat]

/-- It is `16 (125 t + u)`. -/
theorem gOff_eq (t : Fin k0_t2_loop.trips) (u : ℕ) (hu : u < 125) : gOff t u = ![16 * (125 * t.val + u)] := by
  have ht : t.val < 5 := t.isLt
  unfold gOff
  congr 1
  simp [Scalar.indexCast, Scalar.muli, Scalar.addi, IntOp.muli, IntOp.addi, Scf.iv, BitVec.toNat_mul, BitVec.toNat_add]
  omega

theorem gOff_inb (t : Fin k0_t2_loop.trips) (u : ℕ) (hu : u < 125) : ∀ a, gOff t u a + S16.size a ≤ S10000.size a := by
  have ht : t.val < 5 := t.isLt
  rw [gOff_eq t u hu]
  intro a
  match a with
  | 0 => show 16 * (125 * t.val + u) + 16 ≤ 10000; omega

variable (i : grid0.Coords) (arg5 : Memref sig .scVector .vmem S10000 .i32) (arg6 : Memref sig .scVector .vmem S160x128 .i32) (v18 : BitVec 32)

/-- Group `u` of trip `t`: load sixteen endpoints `v`, and add one at row `(v >> 7) + 80 h`, lane `v & 127` for each. -/
def group (t : Fin k0_t2_loop.trips) (u : ℕ) (hu : u < 125) :
    Prog (TpuEff nD τ sig (Elt F) Λ₀ (.scVector ((i 0).castLE hcore0) ((i 1).castLE hsub0))) PUnit := do
  let v : Vec F S16 .i32 ← Prog.lift (.load arg5 (Rect.unit (s := S10000) (gOff t u) S16.size (gOff_inb t u hu)).toLoadRect (View.loadsAt_vmem h_S16))
  have hw : k0_chk1 (k0_pay5 (F := F) (Scalar.muli v18 80#32) v) (k0_pay6 (F := F) v) :=
    (← Prog.lift (TpuEff.assume (k0_chk1 (k0_pay5 (F := F) (Scalar.muli v18 80#32) v) (k0_pay6 (F := F) v)) (k0_chk1.dec _ _))).down
  SparseCore.vectorStoreIdx arg6 ![k0_pay5 (F := F) (Scalar.muli v18 80#32) v, k0_pay6 (F := F) v] k0_pay2 (fun _ => 1#1) true
    (k0_idx1_inb _ _ hw) (View.stores_vmem_bits_univ h_S160x128 rfl)

/-- The groups `u, …, u + n - 1` of trip `t`, one after another. -/
def chain (t : Fin k0_t2_loop.trips) : (n u : ℕ) → u + n ≤ 125 →
    Prog (TpuEff nD τ sig (Elt F) Λ₀ (.scVector ((i 0).castLE hcore0) ((i 1).castLE hsub0))) Unit
  | 0, _, _ => pure ⟨⟩
  | n + 1, u, h => group i arg5 arg6 v18 t u (by omega) >>= fun _ => chain t n (u + 1) (by omega)

set_option maxRecDepth 65536 in
set_option maxHeartbeats 4000000 in
/-- A trip of the printed loop is the chain of its 125 groups. -/
theorem body_eq_chain (arg2 : Memref sig .scVector .hbm S160000 .i32) (harg2 : arg2.IsWhole) (arg3 : Memref sig .scVector .hbm S160000 .i32)
    (harg3 : arg3.IsWhole) (arg4 : Memref sig .scVector .hbm S32x160x128 .i32) (harg4 : arg4.IsWhole) (harg5 : arg5.IsWhole) (harg6 : arg6.IsWhole)
    (arg7 : DmaSems sig S_) (v43_r0 : DmaSems sig S_) (t : Fin k0_t2_loop.trips) :
    k0_t2_body (F := F) i arg2 harg2 arg3 harg3 arg4 harg4 arg5 harg5 arg6 harg6 arg7 v43_r0 v18 (Scalar.muli v18 80#32) t ()
      = chain (F := F) i arg5 arg6 v18 t 125 0 (by omega) := rfl

end Cert.Proof.Groups

end
-- ==== Proof.Hist.lean ====
/-
  The histogram one tile makes of its ten thousand endpoints, as a count.

  A tile of half `h` (0: the edges' sources, 1: their destinations) counts the node of value `v` at row `(v >> 7) + 80 h`,
  lane `v & 127`, that is at the place of flat number `v + 10240 h`.
-/
module

public import proofs.«01_k».proof.Proof.Groups
public import Idealize.ShloMosaic.Lib.Pointwise
public import Mathlib.Algebra.BigOperators.Fin
public import Mathlib.Tactic.Ring

@[expose] public section

noncomputable section

namespace Cert.Proof.Hist

open Cert.KernelIdeal Cert.KernelIdeal.Gen
open Idealize.ShloMosaic Idealize.SL.Sem

variable {F : FTy → Type} [FloatOps F]

/-- The place of endpoint `j` in a tile's buffer. -/
def at1 (j : ℕ) (hj : j < 10000) : S10000.Idx := fun a => ⟨j, by obtain rfl : a = 0 := Subsingleton.elim _ _; exact hj⟩

/-- One if endpoint `j` is counted at place `y`, for a tile of half `h`. -/
def hit (ev : S10000.Idx → BitVec 32) (h : ℕ) (y : S160x128.Idx) (j : ℕ) : ℕ :=
  if hj : j < 10000 then (if (ev (at1 j hj)).toNat + 10240 * h = 128 * (y 0).val + (y 1).val then 1 else 0) else 0

/-- How many of the first `n` endpoints are counted at place `y`. -/
def hits (ev : S10000.Idx → BitVec 32) (h : ℕ) (y : S160x128.Idx) (n : ℕ) : ℕ := ∑ j ∈ Finset.range n, hit ev h y j

/-- The histogram after the first `n` endpoints. -/
def histN (ev : S10000.Idx → BitVec 32) (h n : ℕ) : S160x128.Idx → BitVec 32 := fun y => BitVec.ofNat 32 (hits ev h y n)

theorem histN_zero (ev : S10000.Idx → BitVec 32) (h : ℕ) : histN ev h 0 = fun _ => 0#32 := rfl

/-- Lane `k` of a vector of sixteen. -/
def lane (k : Fin 16) : S16.Idx := Shape.ofLane (d := ![16]) k

/-- One lane of an adding scatter of ones. -/
def put1 (idxs : Fin 2 → IVec S16 32) (h : ∀ a x, (idxs a x).toNat < S160x128.size a) (g : S160x128.Idx → BitVec 32) (k : Fin 16) :
    S160x128.Idx → BitVec 32 :=
  fun j => if (∀ a, (j a).val = (idxAt (s := S160x128) idxs h (lane k) a).val) then g (idxAt (s := S160x128) idxs h (lane k)) + 1#32 else g j

/-- Whether lane `k` names place `y`. -/
def named (idxs : Fin 2 → IVec S16 32) (y : S160x128.Idx) (k : Fin 16) : ℕ :=
  if (idxs 0 (lane k)).toNat = (y 0).val ∧ (idxs 1 (lane k)).toNat = (y 1).val then 1 else 0

/-- Lanes put one after another add to a place the number of them that name it. -/
theorem foldl_put1 (idxs : Fin 2 → IVec S16 32) (h : ∀ a x, (idxs a x).toNat < S160x128.size a) (y : S160x128.Idx) (L : List (Fin 16)) :
    ∀ f : S160x128.Idx → BitVec 32, L.foldl (put1 idxs h) f y = f y + BitVec.ofNat 32 ((L.map (named idxs y)).sum) := by
  induction L with
  | nil => intro f; simp
  | cons k L ih =>
    intro f
    rw [List.foldl_cons, ih, List.map_cons, List.sum_cons]
    have hc : (∀ a, (y a).val = (idxAt (s := S160x128) idxs h (lane k) a).val)
        ↔ ((idxs 0 (lane k)).toNat = (y 0).val ∧ (idxs 1 (lane k)).toNat = (y 1).val) := by
      constructor
      · intro H; exact ⟨(H 0).symm, (H 1).symm⟩
      · rintro ⟨h0, h1⟩ a
        match a with
        | 0 => exact h0.symm
        | 1 => exact h1.symm
    by_cases hy : (∀ a, (y a).val = (idxAt (s := S160x128) idxs h (lane k) a).val)
    · have e : idxAt (s := S160x128) idxs h (lane k) = y := funext fun a => Fin.ext (hy a).symm
      unfold put1 named
      rw [if_pos hy, if_pos (hc.mp hy), e, BitVec.ofNat_add, BitVec.add_assoc]
    · unfold put1 named
      rw [if_neg hy, if_neg (fun H => hy (hc.mpr H)), Nat.zero_add]

/-- An adding scatter of ones adds to each place the number of lanes that name it. -/
theorem storeIdx_ones (f : Vec F S160x128 .i32) (idxs : Fin 2 → IVec S16 32) (h : ∀ a x, (idxs a x).toNat < S160x128.size a)
    (y : S160x128.Idx) :
    (storeIdx (F := F) (s := S160x128) (e := .i32) (d := ![16]) f idxs (k0_pay2) (fun _ => 1#1) true h y : BitVec 32)
      = (f y : BitVec 32) + BitVec.ofNat 32 (∑ k : Fin 16, named idxs y k) := by
  rw [Fin.sum_univ_def]
  have e : storeIdx (F := F) (s := S160x128) (e := .i32) (d := ![16]) f idxs (k0_pay2) (fun _ => 1#1) true h
      = (List.finRange 16).foldl (put1 idxs h) f := by
    unfold storeIdx
    show List.foldl (α := S160x128.Idx → BitVec 32) (β := Fin 16) _ f (List.finRange 16) = _
    congr 1
    funext g k j
    dsimp only
    rw [if_pos rfl, if_pos (show (1#1 : BitVec 1) = 1 from rfl)]
    by_cases hq : ∀ a : Fin 2, (j a).val = (idxAt (s := S160x128) idxs h (lane k) a).val
    · exact (if_pos hq).trans (if_pos hq).symm
    · exact (if_neg hq).trans (if_neg hq).symm
  rw [e]
  exact foldl_put1 idxs h y _ f

/-- The row and the lane of an endpoint. -/
theorem row_word (w : BitVec 32) (h : ℕ) (hw : w.toNat < 10240) (hh : h < 2) :
    (IntOp.addi (IntOp.shrsi .vector w 7#32) (Scalar.muli (BitVec.ofNat 32 h) 80#32)).toNat = w.toNat / 128 + 80 * h := by
  have hm : w.msb = false := by rw [BitVec.msb_eq_decide]; simp; omega
  unfold IntOp.addi IntOp.shrsi Scalar.muli IntOp.muli
  rw [if_pos (by decide), BitVec.sshiftRight_eq', BitVec.toNat_add, BitVec.toNat_mul, BitVec.sshiftRight_eq_of_msb_false hm,
    BitVec.toNat_ushiftRight]
  simp [Nat.shiftRight_eq_div_pow]
  omega

theorem lane_word (w : BitVec 32) : (IntOp.andi w 127#32).toNat = w.toNat % 128 := by
  unfold IntOp.andi
  rw [BitVec.toNat_and]
  exact Nat.and_two_pow_sub_one_eq_mod w.toNat 7

/-- A group's indices are inside the histogram. -/
theorem chk_of (v : Vec F S16 .i32) (h : ℕ) (hh : h < 2) (hv : ∀ x, (v x : BitVec 32).toNat < 10240) :
    k0_chk1 (k0_pay5 (F := F) (Scalar.muli (BitVec.ofNat 32 h) 80#32) v) (k0_pay6 (F := F) v) := by
  intro a x
  have hx := hv x
  match a with
  | 0 =>
    show (IntOp.addi (IntOp.shrsi .vector (v x : BitVec 32) 7#32) (Scalar.muli (BitVec.ofNat 32 h) 80#32)).toNat < 160
    rw [row_word _ _ hx hh]; omega
  | 1 =>
    show (IntOp.andi (v x : BitVec 32) 127#32).toNat < 128
    rw [lane_word]; omega

/-- The two index vectors of a group that loaded `v`, for a tile of half `h`. -/
abbrev idx2 (h : ℕ) (v : Vec F S16 .i32) : Fin 2 → IVec S16 32 := ![k0_pay5 (F := F) (Scalar.muli (BitVec.ofNat 32 h) 80#32) v, k0_pay6 (F := F) v]

/-- The scatter of a group takes the histogram of the endpoints before it to the one that counts its sixteen too. -/
theorem storeIdx_histN (ev : S10000.Idx → BitVec 32) (h n : ℕ) (hh : h < 2) (hn : n + 16 ≤ 10000) (hev : ∀ j, (ev j).toNat < 10240)
    (v : Vec F S16 .i32) (hv : ∀ k : Fin 16, (v (lane k) : BitVec 32) = ev (at1 (n + k.val) (by omega)))
    (hw : ∀ a x, (idx2 (F := F) h v a x).toNat < S160x128.size a) :
    storeIdx (F := F) (s := S160x128) (e := .i32) (d := ![16]) (histN ev h n) (idx2 (F := F) h v) (k0_pay2) (fun _ => 1#1) true hw
      = histN ev h (n + 16) := by
  funext y
  refine (storeIdx_ones (F := F) _ _ _ y).trans ?_
  have h1 : (y 1).val < 128 := (y 1).isLt
  have e : ∀ k : Fin 16, named (idx2 (F := F) h v) y k = hit ev h y (n + k.val) := by
    intro k
    have hi : (y 1).val < 128 := (y 1).isLt
    have h0 : (idx2 (F := F) h v 0 (lane k)).toNat = (ev (at1 (n + k.val) (by omega))).toNat / 128 + 80 * h := by
      rw [← row_word _ _ (hev _) hh, ← hv k]; rfl
    have h1 : (idx2 (F := F) h v 1 (lane k)).toNat = (ev (at1 (n + k.val) (by omega))).toNat % 128 := by
      rw [← lane_word, ← hv k]; rfl
    unfold hit named
    rw [dif_pos (by omega), h0, h1]
    refine if_congr ?_ rfl rfl
    generalize (ev (at1 (n + k.val) _)).toNat = w
    constructor <;> intro H <;> omega
  have e' : hits ev h y n + ∑ k : Fin 16, named (idx2 (F := F) h v) y k = hits ev h y (n + 16) := by
    rw [Finset.sum_congr rfl fun k _ => e k]
    unfold hits
    rw [Finset.sum_range_add, Finset.sum_range (n := 16)]
  rw [histN, histN, ← e', BitVec.ofNat_add]

end Cert.Proof.Hist

end
-- ==== Proof.Common.lean ====
/-
  The kernel as the launch theorem for SparseCore programs sees it: the configuration, the resource algebra, the buffers,
  and what the one SparseCore call hands its tiles and gets back.

  The call has 2 × 16 tiles. Tile `(c, s)` counts chunk `w = 2 s + c`: for `w < 16` it counts the edge sources
  `10000 w, …`, for `w ≥ 16` the edge destinations `10000 (w - 16), …`. Its histogram goes to row `w` of the partial counts.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Groups
public import proofs.«01_k».proof.Proof.Hist

@[expose] public section

noncomputable section

namespace Cert.Proof.Common

open Cert.KernelIdeal Cert.KernelIdeal.Gen
open Cert.Proof.Hist (histN)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱P : Variants := 𝒱₀.lift
abbrev 𝒱 : Variants := 𝒱P
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP (F := F)).LandsIn (upEmb : UEmb _ 𝕄) := by
  unfold EP; infer_instance

/-! ## The buffers -/

/-- The edge sources, the edge destinations, and the partial counts, as locations of device `d`. -/
abbrev sLoc (d : Dev nD) : Loc nD τ sig := (SparseCore.T d).loc main_v1
abbrev tLoc (d : Dev nD) : Loc nD τ sig := (SparseCore.T d).loc main_v3
abbrev oLoc (d : Dev nD) : Loc nD τ sig := (SparseCore.T d).loc main_v4

local notation "sV" => (Memref.whole Cert.KernelIdeal.main_v1_scv : Memref Cert.KernelIdeal.sig Kind.scVector Space.hbm Cert.KernelIdeal.S160000 EltTy.i32)
local notation "tV" => (Memref.whole Cert.KernelIdeal.main_v3_scv : Memref Cert.KernelIdeal.sig Kind.scVector Space.hbm Cert.KernelIdeal.S160000 EltTy.i32)
local notation "oV" => (Memref.whole Cert.KernelIdeal.main_v4_scv : Memref Cert.KernelIdeal.sig Kind.scVector Space.hbm Cert.KernelIdeal.S32x160x128 EltTy.i32)

theorem hdiv : 32 ∣ S32x160x128.size 0 := ⟨1, rfl⟩
/-- Row `w` of the partial counts: one tile's. -/
abbrev row (w : Fin 32) : Rect S32x160x128 := Rect.part (s := S32x160x128) (a₀ := 0) hdiv w
abbrev rowSet (w : Fin 32) : Finset S32x160x128.Idx := ((oV).view.slice (row w)).set

/-- The chunk that tile `s` of SparseCore `c` counts. -/
def wid (c : Fin 2) (s : Fin 16) : Fin 32 := ⟨2 * s.val + c.val, by omega⟩

theorem wid_injective {c c' : Fin 2} {s s' : Fin 16} (h : wid c s = wid c' s') : c = c' ∧ s = s' := by
  have := congrArg Fin.val h
  simp only [wid] at this
  exact ⟨Fin.ext (by omega), Fin.ext (by omega)⟩

/-! ## The contents -/

/-- Place `j` of chunk `w` among the 160000 endpoints. -/
def at16 (w : Fin 32) (j : Fin 10000) : S160000.Idx := fun a => match a with
  | 0 => ⟨10000 * (w.val % 16) + j.val, by
      show 10000 * (w.val % 16) + j.val < 160000
      have := j.isLt; have := Nat.mod_lt w.val (show 0 < 16 by decide); omega⟩

/-- Chunk `w` of the endpoints: of the sources for `w < 16`, of the destinations for `w ≥ 16`. -/
def chunk (s t : S160000.Idx → BitVec 32) (w : Fin 32) : S10000.Idx → BitVec 32 :=
  fun j => if w.val < 16 then s (at16 w (j 0)) else t (at16 w (j 0))

def yy (y : S32x160x128.Idx) : S160x128.Idx := fun a => match a with
  | 0 => y 1
  | 1 => y 2

/-- The partial counts the SparseCores leave: row `w` is the histogram of chunk `w`. -/
def outF (s t : S160000.Idx → BitVec 32) : S32x160x128.Idx → BitVec 32 :=
  fun y => histN (chunk s t (y 0)) ((y 0).val / 16) 10000 (yy y)

/-! ## What the handshakes carry -/

variable [FloatOps F]
variable (m : (ℓ : Loc nD τ sig) → Buf (Elt F) ℓ) (ρ : Dev nD → PrngReg)
variable (sF : (d : Dev nD) → Buf (Elt F) (sLoc d)) (tF : (d : Dev nD) → Buf (Elt F) (tLoc d))

abbrev tok (w : Fin 32) : PosShare TreeShare := Transfers.shareTok fullShare 32 w
abbrev sPts (d : Dev nD) (w : Fin 32) : sProp 𝕄 := sLoc d ↦{tok w} sF d
abbrev tPts (d : Dev nD) (w : Fin 32) : sProp 𝕄 := tLoc d ↦{tok w} tF d
abbrev oRow (d : Dev nD) (w : Fin 32) (f : Buf (Elt F) (oLoc d)) : sProp 𝕄 := oLoc d ↦[rowSet w]{fullShare} f

/-- What a tile is handed: a read share of each array of endpoints and its row of the partial counts. -/
abbrev goW (d : Dev nD) (w : Fin 32) : sProp 𝕄 := iprop(sPts sF d w ∗ tPts tF d w ∗ oRow d w (m (oLoc d)))
/-- What a tile hands back: its row of the partial counts, at the histogram of its chunk. -/
abbrev tdW (d : Dev nD) (w : Fin 32) : sProp 𝕄 := oRow d w (outF (sF d) (tF d))

def P : (K (F := F)).Pay (nD := nD) (Val := Elt F) (Name := ℕ) (U := UU) where
  st := fun q d c => match q with | 0 => bigSep Finset.univ fun s : Fin 16 => goW m sF tF d (wid (Fin.cast nCore_zero c) s)
  dn := fun q d c => match q with | 0 => bigSep Finset.univ fun s : Fin 16 => tdW sF tF d (wid (Fin.cast nCore_zero c) s)
  go := fun q d c i => match q with | 0 => goW m sF tF d (wid (Fin.cast nCore_zero c) (Fin.cast nSub_zero i))
  td := fun q d c i => match q with | 0 => tdW sF tF d (wid (Fin.cast nCore_zero c) (Fin.cast nSub_zero i))
  x := fun _ _ => iprop(emp)

instance P_storable : (P (F := F) m sF tF).IsStorable where
  st q d c := match q with
    | 0 => (inferInstance : BI.Storable (upEmb : UEmb _ 𝕄) (bigSep Finset.univ fun s : Fin 16 => goW m sF tF d (wid (Fin.cast nCore_zero c) s)))
  dn q d c := match q with
    | 0 => (inferInstance : BI.Storable (upEmb : UEmb _ 𝕄) (bigSep Finset.univ fun s : Fin 16 => tdW sF tF d (wid (Fin.cast nCore_zero c) s)))
  go q d c i := match q with
    | 0 => (inferInstance : BI.Storable (upEmb : UEmb _ 𝕄) (goW m sF tF d (wid (Fin.cast nCore_zero c) (Fin.cast nSub_zero i))))
  td q d c i := match q with
    | 0 => (inferInstance : BI.Storable (upEmb : UEmb _ 𝕄) (tdW sF tF d (wid (Fin.cast nCore_zero c) (Fin.cast nSub_zero i))))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands are its tiles' operands, and its results its tiles' results. -/
theorem vecSplit : (K (F := F)).VecSplit' (P m sF tF) 0 := by
  intro d c
  show (bigSep Finset.univ fun s : Fin 16 => goW m sF tF d (wid (Fin.cast nCore_zero c) s)) ⊢ |={Set.univ}=> iprop(
      (bigSep Finset.univ fun i : Fin ((K (F := F)).nSub 0) => goW m sF tF d (wid (Fin.cast nCore_zero c) (Fin.cast nSub_zero i)))
      ∗ ((bigSep Finset.univ fun i : Fin ((K (F := F)).nSub 0) => tdW sF tF d (wid (Fin.cast nCore_zero c) (Fin.cast nSub_zero i)))
          -∗ bigSep Finset.univ fun s : Fin 16 => tdW sF tF d (wid (Fin.cast nCore_zero c) s)))
  rw [bigSep_tasks (F := F) (fun s => goW m sF tF d (wid (Fin.cast nCore_zero c) s)),
    bigSep_tasks (F := F) (fun s => tdW sF tF d (wid (Fin.cast nCore_zero c) s))]
  iintro H; imodintro
  isplitl [H]; · iexact H
  iintro H; iexact H

end Cert.Proof.Common

end
-- ==== Proof.TileLoops.lean ====
/-
  The two loops of the tile's body: the one that clears the histogram, and the one that counts.
-/
module

public import proofs.«01_k».proof.Proof.Common

@[expose] public section

noncomputable section

namespace Cert.Proof.TileLoops

open Cert.KernelIdeal Cert.KernelIdeal.Gen
open Cert.Proof.Common Cert.Proof.Groups Cert.Proof.Hist

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "eM" => (Memref.whole Cert.KernelIdeal.cc0_scratch0 : Memref Cert.KernelIdeal.sig Kind.scVector Space.vmem Cert.KernelIdeal.S10000 EltTy.i32)
local notation "hM" => (Memref.whole Cert.KernelIdeal.cc0_scratch1 : Memref Cert.KernelIdeal.sig Kind.scVector Space.vmem Cert.KernelIdeal.S160x128 EltTy.i32)

abbrev cV (L : grid0.Coords) : Fin τ.nSC := (L 0).castLE hcore0
abbrev jV (L : grid0.Coords) : Fin τ.nSub := (L 1).castLE hsub0
/-- The tile at coordinates `L` of device `d`, and its two scratches: the endpoints and the histogram. -/
abbrev thr (d : Dev nD) (L : grid0.Coords) : Thread nD τ := V d (cV L) (jV L)
abbrev eLoc (d : Dev nD) (L : grid0.Coords) : Loc nD τ sig := (thr d L).loc cc0_scratch0
abbrev hLoc (d : Dev nD) (L : grid0.Coords) : Loc nD τ sig := (thr d L).loc cc0_scratch1

variable (d : Dev nD) (L : grid0.Coords)

omit [FloatOps F] in
theorem pts_h_access (f : Buf (Elt F) (hLoc d L)) :
    (((hM).access (.whole S160x128)).loc (thr d L) ↦[((hM).access (.whole S160x128)).set]{fullShare} f : sProp 𝕄) = hLoc d L ↦{fullShare} f := by
  rw [show ((hM).access (.whole S160x128)).set = Finset.univ from Memref.set_access_whole (cc0_scratch1 : Ref sig .scVector)]

omit [FloatOps F] in
theorem pts_e_univ (f : Buf (Elt F) (eLoc d L)) :
    ((eM).view.loc (thr d L) ↦{fullShare} f : sProp 𝕄) = eLoc d L ↦{fullShare} f := rfl

/-- What group `u` of trip `t` loads: endpoints `16 (125 t + u) + k`. -/
theorem load_lane (ev : S10000.Idx → BitVec 32) (t : Fin k0_t2_loop.trips) (u : ℕ) (hu : u < 125) (k : Fin 16) (n : ℕ) (hn : n = 16 * (125 * t.val + u)) (hj : n + k.val < 10000) :
    (eM).view.readAt (Elt F) (Rect.unit (s := S10000) (gOff t u) S16.size (gOff_inb t u hu)).toLoadRect ev (lane k) = ev (at1 (n + k.val) hj) := by
  simp only [View.readAt_apply, Memref.view_whole, View.read_whole]
  congr 1
  funext a
  match a with
  | 0 =>
    apply Fin.ext
    rw [LoadRect.idx_apply]
    show gOff t u 0 + 1 * k.val = n + k.val
    rw [gOff_eq t u hu, hn]; simp

/-- What the group loads. -/
abbrev ld (ev : S10000.Idx → BitVec 32) (t : Fin k0_t2_loop.trips) (u : ℕ) (hu : u < 125) : Vec F S16 .i32 :=
  (eM).view.readAt (Elt F) (Rect.unit (s := S10000) (gOff t u) S16.size (gOff_inb t u hu)).toLoadRect ev

omit [FloatOps F] in
theorem h_write (f w : S160x128.Idx → BitVec 32) : ((hM).access (.whole S160x128)).write (Elt F) f w Finset.univ = w :=
  Memref.write_access_whole_univ (Elt F) cc0_scratch1 f w

omit [FloatOps F] in
theorem h_read (f : S160x128.Idx → BitVec 32) : ((hM).access (.whole S160x128)).read (Elt F) f = f :=
  Memref.read_access_whole (Elt F) cc0_scratch1 f

/-- What the group's scatter leaves of the histogram. -/
theorem group_store (ev : S10000.Idx → BitVec 32) (h : ℕ) (hh : h < 2) (hev : ∀ j, (ev j).toNat < 10240) (t : Fin k0_t2_loop.trips) (u : ℕ) (hu : u < 125)
    (n : ℕ) (en : n = 16 * (125 * t.val + u))
    (hw : ∀ a x, (idx2 (F := F) h (ld ev t u hu) a x).toNat < S160x128.size a) :
    ((hM).access (.whole S160x128)).write (Elt F) (histN ev h n)
      (storeIdx (s := S160x128) (e := .i32) (d := ![16]) (((hM).access (.whole S160x128)).read (Elt F) (histN ev h n))
        (idx2 (F := F) h (ld ev t u hu)) k0_pay2 (fun _ => 1#1) true hw) Finset.univ
      = histN ev h (n + 16) := by
  have ht : t.val < 5 := t.isLt
  have hn : n + 16 ≤ 10000 := by omega
  have hs := storeIdx_histN (F := F) ev h n hh hn hev (ld ev t u hu)
    (fun k => load_lane ev t u hu k n en (Nat.lt_of_lt_of_le (Nat.add_lt_add_left k.isLt _) hn)) hw
  rw [h_write, h_read]
  exact hs

theorem wp_group (ev : S10000.Idx → BitVec 32) (h : ℕ) (hh : h < 2) (hev : ∀ j, (ev j).toNat < 10240) (t : Fin k0_t2_loop.trips) (u : ℕ) (hu : u < 125)
    {α : Type} (k : PUnit → Prog (TpuEff nD τ sig (Elt F) Λ₀ (.scVector (cV L) (jV L))) α) (Φ : α → sProp 𝕄) :
    iprop((eLoc d L ↦{fullShare} ev) ∗ (hLoc d L ↦{fullShare} histN ev h (16 * (125 * t.val + u)))
        ∗ (iprop((eLoc d L ↦{fullShare} ev) ∗ (hLoc d L ↦{fullShare} histN ev h (16 * (125 * t.val + (u + 1)))))
            -∗ wp frame (wpE (defs₀ (F := F)) 𝒱₀ (thr d L) none) Set.univ (k ⟨⟩) Φ))
      ⊢ wp frame (wpE (defs₀ (F := F)) 𝒱₀ (thr d L) none) Set.univ (group L eM hM (BitVec.ofNat 32 h) t u hu >>= k) Φ := by
  have ht : t.val < 5 := t.isLt
  obtain ⟨n, en⟩ : ∃ n, n = 16 * (125 * t.val + u) := ⟨_, rfl⟩
  rw [← en]
  have hv : ∀ x : S16.Idx, ((eM).view.readAt (Elt F) (Rect.unit (s := S10000) (gOff t u) S16.size (gOff_inb t u hu)).toLoadRect ev x : BitVec 32).toNat < 10240 := by
    intro x
    simp only [View.readAt_apply, Memref.view_whole, View.read_whole]
    exact hev _
  unfold group
  simp only [Prog.lift, Prog.bind_op, Prog.bind_ret, Prog.pure_eq_ret]
  iintro ⟨He, Hh, Hk⟩
  ihave He' := (Entails.of_eq (pts_e_univ (F := F) d L _).symm) $$ He
  iapply (wp_load 𝒱₀ (thr d L) none Set.univ (m := eM) (S := Finset.univ) (Finset.subset_univ _)) $$ He'
  iintro He'
  rw [wp_assume_of _ _ _ _ (chk_of _ h hh hv)]
  ihave Hh' := (Entails.of_eq (pts_h_access (F := F) d L _).symm) $$ Hh
  iapply (SparseCore.wp_vectorStoreIdx 𝒱₀ (thr d L) none Set.univ (base := hM)) $$ Hh'
  iintro Hh'
  iapply Hk
  isplitl [He']; · iexact He'
  ihave Hh := (Entails.of_eq (pts_h_access (F := F) d L _)) $$ Hh'
  rw [show 16 * (125 * t.val + (u + 1)) = n + 16 by omega]
  iapply (Entails.of_eq (congrArg (fun f => (hLoc d L ↦{fullShare} f : sProp 𝕄)) (group_store (F := F) ev h hh hev t u hu n en _))) $$ Hh

/-- The groups `u, …, u + n - 1` of trip `t`. -/
theorem wp_chain (ev : S10000.Idx → BitVec 32) (h : ℕ) (hh : h < 2) (hev : ∀ j, (ev j).toNat < 10240) (t : Fin k0_t2_loop.trips)
    (Φ : Unit → sProp 𝕄) : ∀ (n u : ℕ) (hu : u + n ≤ 125),
    iprop((eLoc d L ↦{fullShare} ev) ∗ (hLoc d L ↦{fullShare} histN ev h (16 * (125 * t.val + u)))
        ∗ (iprop((eLoc d L ↦{fullShare} ev) ∗ (hLoc d L ↦{fullShare} histN ev h (16 * (125 * t.val + (u + n))))) -∗ Φ ⟨⟩))
      ⊢ wp frame (wpE (defs₀ (F := F)) 𝒱₀ (thr d L) none) Set.univ (chain (F := F) L eM hM (BitVec.ofNat 32 h) t n u hu) Φ
  | 0, u, hu => by
    unfold chain
    rw [wp_pure]
    iintro ⟨He, Hh, Hk⟩
    imodintro
    iapply Hk
    isplitl [He] <;> iassumption
  | n + 1, u, hu => by
    unfold chain
    have h1 : u < 125 := by omega
    have h2 : u + 1 + n ≤ 125 := by omega
    iintro ⟨He, Hh, Hk⟩
    iapply (wp_group d L ev h hh hev t u h1 (fun _ => chain (F := F) L eM hM (BitVec.ofNat 32 h) t n (u + 1) h2) Φ)
    isplitl [He]; · iexact He
    isplitl [Hh]; · iexact Hh
    iintro ⟨He, Hh⟩
    iapply (wp_chain ev h hh hev t Φ n (u + 1) h2)
    isplitl [He]; · iexact He
    isplitl [Hh]; · iexact Hh
    rw [show u + 1 + n = u + (n + 1) by omega]
    iexact Hk

end Cert.Proof.TileLoops

end
-- ==== Proof.Zero.lean ====
/-
  The loop that clears the histogram: one row of 128 words a trip, in eight stores of sixteen words.
-/
module

public import proofs.«01_k».proof.Proof.TileLoops

@[expose] public section

noncomputable section

namespace Cert.Proof.Zero

open Cert.KernelIdeal Cert.KernelIdeal.Gen
open Cert.Proof.Common Cert.Proof.TileLoops

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "sV" => (Memref.whole Cert.KernelIdeal.main_v1_scv : Memref Cert.KernelIdeal.sig Kind.scVector Space.hbm Cert.KernelIdeal.S160000 EltTy.i32)
local notation "tV" => (Memref.whole Cert.KernelIdeal.main_v3_scv : Memref Cert.KernelIdeal.sig Kind.scVector Space.hbm Cert.KernelIdeal.S160000 EltTy.i32)
local notation "oV" => (Memref.whole Cert.KernelIdeal.main_v4_scv : Memref Cert.KernelIdeal.sig Kind.scVector Space.hbm Cert.KernelIdeal.S32x160x128 EltTy.i32)
local notation "eM" => (Memref.whole Cert.KernelIdeal.cc0_scratch0 : Memref Cert.KernelIdeal.sig Kind.scVector Space.vmem Cert.KernelIdeal.S10000 EltTy.i32)
local notation "hM" => (Memref.whole Cert.KernelIdeal.cc0_scratch1 : Memref Cert.KernelIdeal.sig Kind.scVector Space.vmem Cert.KernelIdeal.S160x128 EltTy.i32)

/-- The words before row `t`, and the first `c` of row `t`, are zero. -/
def Clear (t c : ℕ) (f : S160x128.Idx → BitVec 32) : Prop :=
  ∀ y, (y 0).val < t ∨ ((y 0).val = t ∧ (y 1).val < c) → f y = 0#32

/-- The sixteen words every store writes. -/
abbrev z16 : Vec F S1x16 .i32 := shapeCast S1x16 (k0_pay1 0#32) shapeCasts_S16_S1x16

/-- One store extends the cleared part by sixteen words. -/
theorem Clear.step {t c : ℕ} {f : S160x128.Idx → BitVec 32} (hf : Clear t c f) (off : Fin 2 → ℕ) (inb : ∀ a, off a + S1x16.size a ≤ S160x128.size a)
    (e : off = ![t, c]) :
    Clear t (c + 16) (((hM).access (Rect.unit (s := S160x128) off S1x16.size inb)).write (Elt F) f (z16 (F := F)) Finset.univ) := by
  intro y hy
  refine (congrFun (View.write_whole_slice_unit (Val := Elt F) cc0_scratch1 off S1x16.size inb f (z16 (F := F))) y).trans ?_
  unfold updateSlice
  split
  · rfl
  · next hout =>
    apply hf
    by_contra hc
    apply hout
    subst e
    intro a
    match a with
    | 0 => show t ≤ (y 0).val ∧ (y 0).val < t + 1; omega
    | 1 => show c ≤ (y 1).val ∧ (y 1).val < c + 16; omega

theorem Clear.row {t : ℕ} {f : S160x128.Idx → BitVec 32} (hf : Clear t 128 f) : Clear (t + 1) 0 f := by
  intro y hy
  have h1 : (y 1).val < 128 := (y 1).isLt
  exact hf y (by omega)

variable (d : Dev nD) (L : grid0.Coords)

theorem wp_body (arg7 v43_r0 : DmaSems sig S_) (t : Fin k0_t1_loop.trips) (f : S160x128.Idx → BitVec 32) (hf : Clear t.val 0 f) :
    (hLoc d L ↦{fullShare} f : sProp 𝕄)
      ⊢ wp frame (wpE (defs₀ (F := F)) 𝒱₀ (thr d L) none) Set.univ
          (k0_t1_body (F := F) L sV (Memref.isWhole_whole _) tV (Memref.isWhole_whole _) oV (Memref.isWhole_whole _)
            eM (Memref.isWhole_whole _) hM (Memref.isWhole_whole _) arg7 v43_r0 0#32 t ())
          fun _ => iprop(∃ f', ⌜Clear (t.val + 1) 0 f'⌝ ∗ hLoc d L ↦{fullShare} f') := by
  unfold k0_t1_body
  iintro H
  ihave H' := (Entails.of_eq (show (hLoc d L ↦{fullShare} f : sProp 𝕄) = (hM).view.loc (thr d L) ↦{fullShare} f from rfl)) $$ H
  sl_exec
  sl_step
  iexists _
  isplitr
  swap
  · iexact H'
  ipureintro
  have e3 := hf.step (F := F) (k0_off3 t) (k0_off3_inb t) (k0_off3_eq t)
  have e4 := e3.step (F := F) (k0_off4 t) (k0_off4_inb t) (k0_off4_eq t)
  have e5 := e4.step (F := F) (k0_off5 t) (k0_off5_inb t) (k0_off5_eq t)
  have e6 := e5.step (F := F) (k0_off6 t) (k0_off6_inb t) (k0_off6_eq t)
  have e7 := e6.step (F := F) (k0_off7 t) (k0_off7_inb t) (k0_off7_eq t)
  have e8 := e7.step (F := F) (k0_off8 t) (k0_off8_inb t) (k0_off8_eq t)
  have e9 := e8.step (F := F) (k0_off9 t) (k0_off9_inb t) (k0_off9_eq t)
  have e10 := e9.step (F := F) (k0_off10 t) (k0_off10_inb t) (k0_off10_eq t)
  exact e10.row

end Cert.Proof.Zero

end
-- ==== Proof.Tile.lean ====
/-
  One tile's task of the SparseCore kernel: the endpoints of its chunk fetched, the histogram cleared, the chunk counted, and
  the histogram written to the tile's row of the partial counts.
-/
module

public import proofs.«01_k».proof.Proof.Zero
public import Idealize.ShloMosaic.Lib.ValueLayout

@[expose] public section

noncomputable section

namespace Cert.Proof.Tile

open Cert.KernelIdeal Cert.KernelIdeal.Gen
open Cert.Proof.Common Cert.Proof.TileLoops Cert.Proof.Zero Cert.Proof.Hist Cert.Proof.Groups

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "sV" => (Memref.whole Cert.KernelIdeal.main_v1_scv : Memref Cert.KernelIdeal.sig Kind.scVector Space.hbm Cert.KernelIdeal.S160000 EltTy.i32)
local notation "tV" => (Memref.whole Cert.KernelIdeal.main_v3_scv : Memref Cert.KernelIdeal.sig Kind.scVector Space.hbm Cert.KernelIdeal.S160000 EltTy.i32)
local notation "oV" => (Memref.whole Cert.KernelIdeal.main_v4_scv : Memref Cert.KernelIdeal.sig Kind.scVector Space.hbm Cert.KernelIdeal.S32x160x128 EltTy.i32)
local notation "eM" => (Memref.whole Cert.KernelIdeal.cc0_scratch0 : Memref Cert.KernelIdeal.sig Kind.scVector Space.vmem Cert.KernelIdeal.S10000 EltTy.i32)
local notation "hM" => (Memref.whole Cert.KernelIdeal.cc0_scratch1 : Memref Cert.KernelIdeal.sig Kind.scVector Space.vmem Cert.KernelIdeal.S160x128 EltTy.i32)

/-! ## Which half, which chunk -/

/-- The number of the tile's chunk, and its half as the kernel computes it. -/
abbrev wL (L : grid0.Coords) : Fin 32 := wid (L 0) (L 1)

def halfW (i : grid0.Coords) : BitVec 32 :=
  let w : BitVec 32 := Scalar.addi (Scalar.muli (BitVec.ofNat 32 (i 1).val) 2#32) (BitVec.ofNat 32 (i 0).val)
  let sg : BitVec 32 := Scalar.subi (Scalar.extui (Scalar.cmpi .sgt w 0#32)) (Scalar.extui (Scalar.cmpi .slt w 0#32))
  let sg16 : BitVec 32 := Scalar.subi (Scalar.extui (Scalar.cmpi .sgt 16#32 0#32)) (Scalar.extui (Scalar.cmpi .slt 16#32 0#32))
  Scalar.select (Scalar.andi (Scalar.cmpi .ne sg sg16) (Scalar.cmpi .ne (Scalar.remsi w 16#32) 0#32)) (Scalar.subi (Scalar.divsi w 16#32) 1#32) (Scalar.divsi w 16#32)

theorem halfW_eq : ∀ i : grid0.Coords, halfW i = BitVec.ofNat 32 ((wL i).val / 16) := by decide +kernel
theorem cond1_iff : ∀ i : grid0.Coords, k0_cond1 i = 1#1 ↔ (wL i).val < 16 := by decide +kernel
theorem cond2_iff : ∀ i : grid0.Coords, k0_cond2 i = 1#1 ↔ ¬ (wL i).val < 16 := by decide +kernel
theorem off1_eq : ∀ i : grid0.Coords, k0_off1 i = ![10000 * ((wL i).val % 16)] := by decide +kernel
theorem off2_eq : ∀ i : grid0.Coords, k0_off2 i = ![10000 * ((wL i).val % 16)] := by decide +kernel

/-- The kernel's opening, up to the loop that clears the histogram. -/
theorem part39 (L : grid0.Coords) (arg7 v43_r0 : DmaSems sig S_) :
    k0_part39 (F := F) L sV (Memref.isWhole_whole _) tV (Memref.isWhole_whole _) oV (Memref.isWhole_whole _)
            eM (Memref.isWhole_whole _) hM (Memref.isWhole_whole _) arg7 v43_r0
      = (do
        if k0_h1 : k0_cond1 L = 1#1 then do
          Prog.lift (.enqueueDma ((sV).slice (Rect.unit (s := S160000) (k0_off1 L) S10000.size (k0_off1_inb L k0_h1)) (fun _ => rfl)) (.here eM) (.dma arg7.sem) (View.wordExact_bits rfl) (Memref.isWhole_whole _).wordExact ⟨Or.inl rfl, trivial⟩)
          pure ⟨⟩
        else do
          pure ⟨⟩
        if k0_h2 : k0_cond2 L = 1#1 then do
          Prog.lift (.enqueueDma ((tV).slice (Rect.unit (s := S160000) (k0_off2 L) S10000.size (k0_off2_inb L k0_h2)) (fun _ => rfl)) (.here eM) (.dma arg7.sem) (View.wordExact_bits rfl) (Memref.isWhole_whole _).wordExact ⟨Or.inl rfl, trivial⟩)
          pure ⟨⟩
        else do
          pure ⟨⟩
        pure ⟨halfW L, 0#32⟩) := rfl

variable (m : (ℓ : Loc nD τ sig) → Buf (Elt F) ℓ)
variable (sF : (d : Dev nD) → Buf (Elt F) (sLoc d)) (tF : (d : Dev nD) → Buf (Elt F) (tLoc d))
variable (d : Dev nD) (L : grid0.Coords)

/-! ## The tile's own semaphores and buffers -/

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)

omit [FloatOps F] in
theorem ownSems0_V :
    (ownSems0 (thr d L) : sProp 𝕄)
      = iprop(semVal (cAcell d (cV L) (jV L)) 0 ∗ semVal (cBcell d (cV L) (jV L)) 0
          ∗ bigSep (((ownCells (thr d L)).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩)]

omit [FloatOps F] in
theorem ownBufs_V :
    (ownBufs (thr d L) : sProp 𝕄)
      = iprop((∃ f, eLoc d L ↦{fullShare} f) ∗ (∃ f, hLoc d L ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The row of the partial counts -/

abbrev rowK (L : grid0.Coords) : Rect S32x160x128 := Rect.unit (s := S32x160x128) (k0_off137 L) S1x160x128.size (k0_off137_inb L)
abbrev oRowK (L : grid0.Coords) : Memref sig .scVector .hbm S160x128 .i32 := ((oV).slice (rowK L) (fun _ => rfl)).squeeze S160x128 squeezes_S1x160x128_S160x128

omit [FloatOps F] in
theorem rowK_eq : rowK L = row (wL L) := by
  unfold rowK row Rect.part Rect.block
  congr 1 <;> funext a
  · rw [k0_off137_eq]
    match a with
    | 0 => simp [Shape.partIx, Shape.partSize]; rfl
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_oRowK : (oRowK L).view.set = rowSet (wL L) := by
  show (((oV).view.slice (rowK L)).reshape S160x128 squeezes_S1x160x128_S160x128.numel_eq).set = ((oV).view.slice (row (wL L))).set
  rw [View.set_reshape]
  exact rowK_eq L ▸ rfl

omit [FloatOps F] in
theorem pts_oRowK (f : Buf (Elt F) (oLoc d)) :
    ((oRowK L).view.loc (thr d L) ↦[(oRowK L).view.set]{fullShare} f : sProp 𝕄) = oLoc d ↦[rowSet (wL L)]{fullShare} f := by
  rw [set_oRowK]

/-! ## The fetch -/

/-- The chunk, read out of the sources through the slice the kernel fetches. -/
theorem fetch1 (h : k0_cond1 L = 1#1) (hw : (wL L).val < 16) (fe : S10000.Idx → BitVec 32) (s t : S160000.Idx → BitVec 32) :
    View.write (Elt F) (eM).view fe (((sV).slice (Rect.unit (s := S160000) (k0_off1 L) S10000.size (k0_off1_inb L h)) (fun _ => rfl)).view.read (Elt F) s) Finset.univ
      = chunk s t (wL L) := by
  refine (View.write_whole_univ _ _ _).trans ?_
  funext j
  refine ((View.read_apply _ _).trans (cast_eq _ _)).trans ?_
  unfold chunk
  rw [if_pos hw]
  congr 1
  funext a
  match a with
  | 0 =>
    apply Fin.ext
    have e : k0_off1 L 0 = 10000 * ((wL L).val % 16) := by rw [off1_eq]; rfl
    show k0_off1 L 0 + 1 * (j 0).val = 10000 * ((wL L).val % 16) + (j 0).val
    omega

/-- The chunk, read out of the destinations likewise. -/
theorem fetch2 (h : k0_cond2 L = 1#1) (hw : ¬ (wL L).val < 16) (fe : S10000.Idx → BitVec 32) (s t : S160000.Idx → BitVec 32) :
    View.write (Elt F) (eM).view fe (((tV).slice (Rect.unit (s := S160000) (k0_off2 L) S10000.size (k0_off2_inb L h)) (fun _ => rfl)).view.read (Elt F) t) Finset.univ
      = chunk s t (wL L) := by
  refine (View.write_whole_univ _ _ _).trans ?_
  funext j
  refine ((View.read_apply _ _).trans (cast_eq _ _)).trans ?_
  unfold chunk
  rw [if_neg hw]
  congr 1
  funext a
  match a with
  | 0 =>
    apply Fin.ext
    have e : k0_off2 L 0 = 10000 * ((wL L).val % 16) := by rw [off2_eq]; rfl
    show k0_off2 L 0 + 1 * (j 0).val = 10000 * ((wL L).val % 16) + (j 0).val
    omega

/-- The chunk of tile `L`. -/
abbrev ck : S10000.Idx → BitVec 32 := chunk (sF d) (tF d) (wL L)

/-- The fetch in flight: it brings the chunk into the tile's buffer (and gives back a share of its source). -/
abbrev Fetch (X : sProp 𝕄) : sProp 𝕄 :=
  Transfers.Flight (countersEmb (nD := nD) (sig := sig) (Ix := HIx 1) (Val := Elt F) (Name := ℕ) (U := UU) (Lvl := ℕ)) (thr d L) (SemLoc.dma (⟨0, by decide⟩ : DmaSem sig)) (default : HIx 1) 320000
    iprop(((eM).view.loc (thr d L) ↦{fullShare} ck sF tF d L) ∗ X)

theorem fetch_of (X : sProp 𝕄) (g : Buf (Elt F) (eLoc d L)) (hg : g = ck sF tF d L) :
    Transfers.Flight (countersEmb (nD := nD) (sig := sig) (Ix := HIx 1) (Val := Elt F) (Name := ℕ) (U := UU) (Lvl := ℕ)) (thr d L) (SemLoc.dma (⟨0, by decide⟩ : DmaSem sig)) (default : HIx 1) 320000
      iprop(((eM).view.loc (thr d L) ↦{fullShare} g) ∗ X) ⊢ (iprop(∃ X, Fetch sF tF d L X) : sProp 𝕄) := by
  subst hg
  iintro H; iexists X; iexact H

theorem wp_part39 (O : CellTallies nD τ sig (HIx 1)) (W : Waits sig (HIx 1)) (fe : Buf (Elt F) (eLoc d L)) :
    iprop(((sV).view.loc (thr d L) ↦{tok (wL L)} sF d) ∗ ((tV).view.loc (thr d L) ↦{tok (wL L)} tF d)
        ∗ ((eM).view.loc (thr d L) ↦{fullShare} fe) ∗ semVal (cAcell d (cV L) (jV L)) 0 ∗ owes (thr d L) O W)
      ⊢ wp frame (wpE (defs₀ (F := F)) 𝒱₀ (thr d L) none) Set.univ
          (k0_part39 (F := F) L sV (Memref.isWhole_whole _) tV (Memref.isWhole_whole _) oV (Memref.isWhole_whole _)
            eM (Memref.isWhole_whole _) hM (Memref.isWhole_whole _) cc0_scratch2 cc0_scoped0)
          fun r => iprop(⌜r = ⟨halfW L, 0#32⟩⌝ ∗ (∃ X, Fetch sF tF d L X) ∗ owes (thr d L) O W) := by
  rw [part39]
  iintro ⟨Hs', Ht', He', HsemA, HO⟩
  by_cases hw : (wL L).val < 16
  · have k0_h1 : k0_cond1 L = 1#1 := (cond1_iff L).mpr hw
    have k0_h2 : ¬ k0_cond2 L = 1#1 := fun h => (cond2_iff L).mp h hw
    sl_exec (disch := exact View.amount_pos _ _ (show 0 < S10000.numel by decide))
    sl_step
    isplitr; · ipureintro; rfl
    isplitl [HsemA]
    · iapply (fetch_of sF tF d L _ _ (show View.write (Elt F) (eM).view fe (wp_part39.sl.dma0 sF d L k0_h1) Finset.univ = _ from fetch1 L k0_h1 hw fe (sF d) (tF d))) $$ HsemA
    iexact HO
  · have k0_h1 : ¬ k0_cond1 L = 1#1 := fun h => hw ((cond1_iff L).mp h)
    have k0_h2 : k0_cond2 L = 1#1 := (cond2_iff L).mpr hw
    sl_exec (disch := exact View.amount_pos _ _ (show 0 < S10000.numel by decide))
    sl_step
    isplitr; · ipureintro; rfl
    isplitl [HsemA]
    · iapply (fetch_of sF tF d L _ _ (show View.write (Elt F) (eM).view fe (wp_part39.sl.dma0_1 tF d L k0_h2) Finset.univ = _ from fetch2 L k0_h2 hw fe (sF d) (tF d))) $$ HsemA
    iexact HO

/-! ## The task -/

theorem ret_bind {E : Type → Type} {α β : Type} (a : α) (k : α → Prog E β) : (Prog.ret a).bind k = k a := rfl

/-- The histogram, at the contents the write-out leaves in the tile's row. -/
theorem out_row (y : S32x160x128.Idx) (hy : y ∈ (oRowK L).view.set) (f : Buf (Elt F) (oLoc d)) (w : S160x128.Idx → BitVec 32)
    (hw : w = histN (ck sF tF d L) ((wL L).val / 16) 10000) :
    (oRowK L).view.writes (Elt F) f [⟨Rect.whole S160x128, w⟩] y = outF (sF d) (tF d) y := by
  subst hw
  obtain ⟨x, -, rfl⟩ := Finset.mem_map.mp hy
  rw [View.writes_singleton]
  have e' : (oRowK L).view.emb x = ((oRowK L).view.slice (Rect.whole S160x128)).emb x := by
    show _ = (oRowK L).view.emb ((Rect.whole S160x128).emb x)
    refine congrArg _ (funext fun a => Fin.ext ?_)
    show (x a).val = 0 + 1 * (x a).val
    omega
  rw [e']
  refine (View.write_emb_of_mem _ _ (Finset.mem_univ x)).trans ((cast_eq _ _).trans ?_)
  rw [← e']
  have e : (oRowK L).view.emb x = (rowK L).emb (ix3 (0 : Fin 1) (x 0) (x 1)) := by
    show (rowK L).emb (Shape.reshapeEquiv _ x) = _
    refine congrArg (rowK L).emb ?_
    conv_lhs => rw [show x = ix2 (x 0) (x 1) from by funext a; match a with | 0 => rfl | 1 => rfl]
    exact ValueIdx.reshapeEquiv_ix2_1ab _ _ _
  have h0 : ((oRowK L).view.emb x) 0 = wL L := by
    rw [e]; apply Fin.ext
    show k0_off137 L 0 + 1 * 0 = (wL L).val
    rw [k0_off137_eq]; simp; rfl
  have h1 : yy ((oRowK L).view.emb x) = x := by
    rw [e]; funext a; apply Fin.ext
    match a with
    | 0 => show k0_off137 L 1 + 1 * (x 0).val = (x 0).val; rw [k0_off137_eq]; simp
    | 1 => show k0_off137 L 2 + 1 * (x 1).val = (x 1).val; rw [k0_off137_eq]; simp
  unfold outF
  rw [h0, h1]

theorem tile_body (hs : ∀ j, (sF d j : BitVec 32).toNat < 10240) (ht : ∀ j, (tF d j : BitVec 32).toNat < 10240) (hF : (K (F := F)).Facts) (O : CellTallies nD τ sig (HIx 1)) (W : Waits sig (HIx 1)) (hO : ∀ g, O g none = 0) :
    iprop(levAts (K (F := F)).L (K (F := F)).lev ∗ emp ∗ goW m sF tF d (wL L)
        ∗ scopedBufs (thr d L) ∗ scopedSems0 (thr d L) ∗ owes (thr d L) O W)
      ⊢ wp frame (wpE (defs₀ (F := F)) 𝒱₀ (thr d L) none) Set.univ
          (cc0__sc_hist_body (F := F) L sV (Memref.isWhole_whole _) tV (Memref.isWhole_whole _) oV (Memref.isWhole_whole _)
            eM (Memref.isWhole_whole _) hM (Memref.isWhole_whole _) cc0_scratch2 cc0_scoped0)
          fun _ => iprop(tdW sF tF d (wL L)
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V,
    cc0__sc_hist_body_eq_skeleton]
  unfold cc0__sc_hist_body_skel
  iintro ⟨#Hlv, -, ⟨Hs, Ht, Ho⟩, ⟨⟨%fe, He⟩, ⟨%fh, Hh⟩, Hbufs⟩, ⟨HsemA, HsemB, Hsems⟩, HO⟩
  ihave Hmw := (show levAts (K (F := F)).L (K (F := F)).lev ⊢ Transfers.MayWaits (thr d L) (default : HIx 1) O from
    (K (F := F)).mayWaits_none (thr := thr d L) hO) $$ Hlv
  ihave Ho' := (Entails.of_eq (pts_oRowK (F := F) d L _).symm) $$ Ho
  rw [wp_bind]
  iapply wp_wand $$ [Hs Ht He HsemA HO]
  · iapply (wp_part39 sF tF d L O W fe)
    isplitl [Hs]; · iexact Hs
    isplitl [Ht]; · iexact Ht
    isplitl [He]; · iexact He
    isplitl [HsemA]; · iexact HsemA
    iexact HO
  iintro %r ⟨%hr, ⟨%X, HsemA⟩, HO⟩
  subst hr
  sl_exec
  have hh : (wL L).val / 16 < 2 := by have := (wL L).isLt; omega
  have hev : ∀ j, (ck sF tF d L j).toNat < 10240 := by
    intro j; unfold ck chunk; split
    · exact hs _
    · exact ht _
  ihave Hh0 := (show (hLoc d L ↦{fullShare} fh : sProp 𝕄) ⊢ iprop(∃ f, ⌜Clear 0 0 f⌝ ∗ hLoc d L ↦{fullShare} f) from by
    iintro H; iexists fh; isplitr
    · ipureintro; intro y hy; omega
    · iexact H) $$ Hh
  sl_for (fun n _ => iprop(∃ f, ⌜Clear n 0 f⌝ ∗ hLoc d L ↦{fullShare} f)) $$ [Hh0]
  case region =>
    intro k _
    iintro ⟨%f, %hf, H⟩
    iapply (wp_body (F := F) d L cc0_scratch2 cc0_scoped0 k f hf) $$ H
  · iexact Hh0
  iintro %_ ⟨%f, %hf, Hh⟩
  unfold Fetch
  rw [show f = histN (ck sF tF d L) ((wL L).val / 16) 0 from by
    rw [histN_zero]; funext y; exact hf y (.inl (y 0).isLt)]
  iapply (Transfers.wp_waitLocalO countersEmb 𝒱₀ (thr d L) none (default : HIx 1) (rfl : (eM).view.dmaCredit = _)) $$ [HsemA HO]
  · isplitl [HsemA]; · iexact HsemA
    isplitl [HO]; · iexact HO
    iapply (Transfers.MayWaits.elim (SemLoc.dma cc0_scratch2.sem)) $$ Hmw
  iintro ⟨⟨He, -⟩, HsemA, HO⟩
  rw [ret_bind]
  sl_exec
  sl_for (fun n _ => iprop((eLoc d L ↦{fullShare} ck sF tF d L) ∗ hLoc d L ↦{fullShare} histN (ck sF tF d L) ((wL L).val / 16) (2000 * n))) $$ [He Hh]
  case region =>
    intro k acc
    have h0 : 0 + 125 ≤ 125 := by omega
    unfold tile_body.sl.prog.body_2 tile_body.sl.v40
    obtain ⟨⟩ := acc
    rw [halfW_eq, body_eq_chain]
    iintro ⟨He, Hh⟩
    iapply (wp_chain (F := F) d L (ck sF tF d L) ((wL L).val / 16) hh hev k _ 125 0 h0)
    isplitl [He]; · iexact He
    isplitl [Hh]
    · rw [show 16 * (125 * k.val + 0) = 2000 * k.val by omega]; iexact Hh
    rw [show 16 * (125 * k.val + (0 + 125)) = 2000 * (k.val + 1) by omega]
    iintro H; iexact H
  · isplitl [He] <;> iassumption
  iintro %_ ⟨He, Hh⟩
  ihave Hh' := (Entails.of_eq (show (hLoc d L ↦{fullShare} histN (ck sF tF d L) ((wL L).val / 16) (2000 * Scf.trips k0_t2_loop.lb k0_t2_loop.ub k0_t2_loop.st) : sProp 𝕄)
    = (hM).view.loc (thr d L) ↦{fullShare} histN (ck sF tF d L) ((wL L).val / 16) 10000 from rfl)) $$ Hh
  sl_exec (disch := exact View.amount_pos _ _ (show 0 < S160x128.numel by decide))
  sl_step
  isplitl [Ho']
  · iapply (Entails.of_eq (show ((oRowK L).view.loc (thr d L) ↦[(oRowK L).view.set]{fullShare} outF (sF d) (tF d) : sProp 𝕄) = tdW sF tF d (wL L) from pts_oRowK (F := F) d L _))
    iapply (Entails.of_eq (pointsTo_congr (fun y hy => out_row (F := F) sF tF d L y hy (m (oLoc d)) (tile_body.sl.dma0 sF tF d L) (by unfold tile_body.sl.dma0; exact View.read_whole _ _))))
    iexact Ho'
  isplitl [He Hh' Hbufs]
  · isplitl [He]; · iexists _; iexact He
    isplitl [Hh']; · iexists _; iexact Hh'
    iexact Hbufs
  isplitl [HsemA HsemB Hsems]
  · isplitl [HsemA]; · iexact HsemA
    isplitl [HsemB]; · iexact HsemB
    iexact Hsems
  iexists _; isplitr
  swap; · iexact HO
  ipureintro; intro p _
  rcases p.2 with _ | q
  · exact .inr (.inl rfl)
  · exact .inr (.inr (congrArg some (Subsingleton.elim q 0)))

end Cert.Proof.Tile

end
-- ==== Proof.TcBody.lean ====
/-
  The body of the TensorCore kernel at one grid point, on whatever staging buffers it is called with: it reads five of them
  whole and overwrites the sixth with a function of what it read.
-/
module

public import proofs.«01_k».proof.Proof.Common

@[expose] public section

noncomputable section

namespace Cert.Proof.TcBody

open Cert.KernelIdeal Cert.KernelIdeal.Gen
open Cert.Proof.Common

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The block of the result at grid point `i0`: from the two blocks of partial counts `a` (of the sources) and `b` (of the
    destinations), the two tables, and the block of the input. -/
def tcOut (i0 : ℕ) (a b : Vec F S32x8x128 .i32) (zi zo : Vec F S64x256 .f32) (x : Vec F S8x1024x256 .f32) : FVec F S8x1024x256 .f32 :=
  let iot : IVec S64x128 32 := iota .tc S64x128 32 [0] iota_S64x128_d0_w32
  let da := k1_pay2 a
  let db := k1_pay3 b
  k1_pay1 (BitVec.ofNat 32 i0) (k1_pay4 a b zi zo) (k1_pay7 (k1_pay5 a) (k1_pay6 b zi) zo) (k1_pay8 da db iot zi zo)
    (k1_pay9 da db iot zi zo)
    (k1_pay12 (k1_pay10 da iot) (k1_pay11 db iot) zi (constant S128x256 .f32 0x00000000#32) zo)
    (k1_pay13 da db iot zi zo) (k1_pay14 da db iot zi zo) (k1_pay15 da iot) (k1_pay16 db iot) zi zo x

omit [FloatOps F] in
/-- A load of the whole of a memref reads what its view reads. -/
theorem readAt_all {κ : Kind} {sp : Space} {S : Shape} {e : EltTy} (M : Memref sig κ sp S e) (off : Fin S.rank → ℕ)
    (h : off = fun _ => 0) (inb : ∀ a, off a + S.size a ≤ S.size a) (f : M.view.ty.Contents (Elt F)) :
    M.view.readAt (Elt F) (Rect.unit off S.size inb).toLoadRect f = M.view.read (Elt F) f := by
  subst h
  funext x
  show M.view.read (Elt F) f _ = _
  congr 1
  funext a
  apply Fin.ext
  show 0 + 1 * (x a).val = (x a).val
  omega

omit [FloatOps F] in
/-- A store of the whole of a memref leaves its view reading the payload. -/
theorem read_write_all {κ : Kind} {sp : Space} {S : Shape} {e : EltTy} (M : Memref sig κ sp S e) (off : Fin S.rank → ℕ)
    (h : off = fun _ => 0) (inb : ∀ a, off a + S.size a ≤ S.size a) (f : M.view.ty.Contents (Elt F)) (w : S.Idx → Elt F e) :
    M.view.read (Elt F) (M.view.writes (Elt F) f [⟨Rect.unit off S.size inb, w⟩]) = w := by
  subst h
  rw [View.writes_singleton]
  funext x
  have h2 := congrFun (View.read_write_univ (v := M.view.slice (Rect.unit (fun _ => 0) S.size inb)) (Val := Elt F) f w) x
  have hx : (Rect.unit (fun _ => 0) S.size inb).emb x = x := funext fun a => Fin.ext (by
    show 0 + 1 * (x a).val = (x a).val
    omega)
  change M.view.read (Elt F) _ ((Rect.unit (fun _ => 0) S.size inb).emb x) = w x at h2
  rw [hx] at h2
  exact h2

set_option maxRecDepth 65536 in
/-- The body, from its six staging buffers held whole: it returns with the first five as they were and the sixth at `tcOut` of
    what they hold. -/
theorem bodyRun (c : Dev nD) (E : Set ℕ) (i : grid1.Coords)
    (M1 : Memref sig .tc .vmem S32x8x128 .i32) (h1 : M1.IsWhole) (M2 : Memref sig .tc .vmem S32x8x128 .i32) (h2 : M2.IsWhole)
    (M3 : Memref sig .tc .vmem S64x256 .f32) (h3 : M3.IsWhole) (M4 : Memref sig .tc .vmem S64x256 .f32) (h4 : M4.IsWhole)
    (M5 : Memref sig .tc .vmem S8x1024x256 .f32) (h5 : M5.IsWhole) (M6 : Memref sig .tc .vmem S8x1024x256 .f32) (h6 : M6.IsWhole)
    (a b : Vec F S32x8x128 .i32) (zi zo : Vec F S64x256 .f32) (x y : Vec F S8x1024x256 .f32) (Q : PUnit → sProp 𝕄) :
    iprop((owns (c : Thread nD τ) M1 fullShare a ∗ owns (c : Thread nD τ) M2 fullShare b
            ∗ owns (c : Thread nD τ) M3 fullShare zi ∗ owns (c : Thread nD τ) M4 fullShare zo
            ∗ owns (c : Thread nD τ) M5 fullShare x ∗ owns (c : Thread nD τ) M6 fullShare y)
          ∗ (iprop(owns (c : Thread nD τ) M1 fullShare a ∗ owns (c : Thread nD τ) M2 fullShare b
            ∗ owns (c : Thread nD τ) M3 fullShare zi ∗ owns (c : Thread nD τ) M4 fullShare zo
            ∗ owns (c : Thread nD τ) M5 fullShare x
            ∗ owns (c : Thread nD τ) M6 fullShare (tcOut (i 0).val a b zi zo x)) -∗ Q ⟨⟩))
      ⊢ wp frame (wpE (defs₀ (F := F)) 𝒱₀ c none) E (cc1__tc_body i M1 h1 M2 h2 M3 h3 M4 h4 M5 h5 M6 h6) Q := by
  have hz2 : (![0, 0] : Fin 2 → ℕ) = fun _ => 0 := funext fun a => by fin_cases a <;> rfl
  have hz3 : (![0, 0, 0] : Fin 3 → ℕ) = fun _ => 0 := funext fun a => by fin_cases a <;> rfl
  unfold owns
  rw [h1.set_eq_univ, h2.set_eq_univ, h3.set_eq_univ, h4.set_eq_univ, h5.set_eq_univ, h6.set_eq_univ]
  rw [cc1__tc_body_eq_skeleton]
  unfold cc1__tc_body_skel
  rw [k1_part1_eq_skeleton, k1_part2_eq_skeleton, k1_part3_eq_skeleton]
  unfold k1_part1_skel k1_part2_skel k1_part3_skel
  iintro ⟨⟨⟨%f1, %e1, H1⟩, ⟨%f2, %e2, H2⟩, ⟨%f3, %e3, H3⟩, ⟨%f4, %e4, H4⟩, ⟨%f5, %e5, H5⟩, ⟨%f6, %e6, H6⟩⟩, Hk⟩
  sl_exec
  sl_step
  iapply Hk
  have r1 := readAt_all M1 ![0, 0, 0] hz3 inb_S32x8x128_S32x8x128_0_0_0 f1
  have r2 := readAt_all M2 ![0, 0, 0] hz3 inb_S32x8x128_S32x8x128_0_0_0 f2
  have r3 := readAt_all M3 ![0, 0] hz2 inb_S64x256_S64x256_0_0 f3
  have r4 := readAt_all M4 ![0, 0] hz2 inb_S64x256_S64x256_0_0 f4
  have r5 := readAt_all M5 ![0, 0, 0] hz3 inb_S8x1024x256_S8x1024x256_0_0_0 f5
  rw [e1] at r1; rw [e2] at r2; rw [e3] at r3; rw [e4] at r4; rw [e5] at r5
  rw [r1, r2, r3, r4, r5]
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  iexists _
  isplitr
  swap
  · iexact H6
  ipureintro
  exact read_write_all M6 ![0, 0, 0] hz3 _ f6 _

end Cert.Proof.TcBody
-- ==== Proof.Region.lean ====
/-
  The TensorCore kernel as one region of @main: what the staging buffers hold before and after its body at each grid point,
  the obligation that its body keeps, and the region from all the unscoped buffers at one valuation to all of them at another.
-/
module

public import proofs.«01_k».proof.Proof.TcBody
public import proofs.«01_k».proof.Proof.Gen.KernelIdeal.Launch
public import proofs.«01_k».proof.Proof.Gen.KernelIdeal.Points
public import Idealize.ShloMosaic.Lib.Pipeline.RegionsLoop

@[expose] public section

noncomputable section

namespace Cert.Proof.Region

open Cert.KernelIdeal Cert.KernelIdeal.Gen
open Cert.Proof.Common Cert.Proof.TcBody

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation BodyObligationLoose cellOf)

variable {F : FTy → Type} [FloatOps F]

local notation "𝕄" => MT nD τ sig (HIx 1) (Elt F) ℕ UU ℕ

/-- The result's block at a place reads the input's block at that place only. -/
theorem tcOut_congr (i0 : ℕ) (a b : Vec F S32x8x128 .i32) (zi zo : Vec F S64x256 .f32) (x x' : Vec F S8x1024x256 .f32)
    (j : S8x1024x256.Idx) (h : x j = x' j) : tcOut i0 a b zi zo x j = tcOut i0 a b zi zo x' j := by
  unfold tcOut k1_pay1
  show FloatOps.addf (x j) _ = FloatOps.addf (x' j) _
  rw [h]

/-! ## The proof data -/

variable (V : (c : Dev nD) → (b : Ref sig .tc) → Buf (Elt F) ((c : Thread nD τ).loc b))

/-- The blocks of the partial counts of the sources and of the destinations, the two tables, and the input's block at point
    `t`, as the pipeline stages them from the buffers at `V`. -/
def blkA (c : Dev nD) (t : Fin cfg1.N) : Vec F S32x8x128 .i32 := ((cfg1.win 0).blk t).view.read (Elt F) (V c main_v4)
def blkB (c : Dev nD) (t : Fin cfg1.N) : Vec F S32x8x128 .i32 := ((cfg1.win 1).blk t).view.read (Elt F) (V c main_v4)
def tabI (c : Dev nD) (t : Fin cfg1.N) : Vec F S64x256 .f32 := ((cfg1.win 2).blk t).view.read (Elt F) (V c main_arg2)
def tabO (c : Dev nD) (t : Fin cfg1.N) : Vec F S64x256 .f32 := ((cfg1.win 3).blk t).view.read (Elt F) (V c main_arg3)
def xcut (c : Dev nD) (t : Fin cfg1.N) : (win1_4.xblock (grid1.coords t)).Idx → Elt F .f32 :=
  ((cfg1.win 4).blk t).view.read (Elt F) (V c main_arg0)
/-- The input's block filled out past the array's end with the zero word. -/
def xfull (c : Dev nD) (t : Fin cfg1.N) : Vec F S8x1024x256 .f32 :=
  win1_4.fill (grid1.coords t) (fun _ => Scalar.ofBits .f32 0#32) (xcut V c t)

/-- The proof data: the arrays at `V`; after the body the inputs' staging buffers hold their blocks and the result's holds
    `tcOut` of them. -/
def dat (c : Dev nD) : Dat τ (Elt F) (HIx 1) ℕ UU ℕ cfg1 c where
  A w := V c (Pipeline.arrRef spec1 w)
  after w t := match w with
    | ⟨0, _⟩ => blkA V c t
    | ⟨1, _⟩ => blkB V c t
    | ⟨2, _⟩ => tabI V c t
    | ⟨3, _⟩ => tabO V c t
    | ⟨4, _⟩ => xfull V c t
    | ⟨5, _⟩ => tcOut (grid1.coords t 0).val (blkA V c t) (blkB V c t) (tabI V c t) (tabO V c t) (xfull V c t)
  Φ _ := iprop(emp)
  q w := Pipeline.shareOf spec1 w
  owed _ := 0

theorem before0 (c : Dev nD) (t : Fin cfg1.N) (d) : (dat V c).before (0 : Fin 6) t d = blkA V c t := by
  unfold Dat.before; rw [if_pos (fetch1_0 t)]; rfl
theorem before1 (c : Dev nD) (t : Fin cfg1.N) (d) : (dat V c).before (1 : Fin 6) t d = blkB V c t := by
  unfold Dat.before; rw [if_pos (fetch1_1 t)]; rfl
theorem before4 (c : Dev nD) (t : Fin cfg1.N) (d) :
    (dat V c).before (4 : Fin 6) t d = win1_4.fill (grid1.coords t) d (xcut V c t) := by
  unfold Dat.before; rw [if_pos (fetch1_4 t)]; rfl
theorem before2 (c : Dev nD) (t : Fin cfg1.N) (d) : (dat V c).before (2 : Fin 6) t d = tabI V c t :=
  ((dat V c).before_in_eq_fetched (2 : Fin 6) rfl (fun _ => rfl) (fun _ _ _ => rfl) (fun _ => rfl) t d).trans rfl
theorem before3 (c : Dev nD) (t : Fin cfg1.N) (d) : (dat V c).before (3 : Fin 6) t d = tabO V c t :=
  ((dat V c).before_in_eq_fetched (3 : Fin 6) rfl (fun _ => rfl) (fun _ _ _ => rfl) (fun _ => rfl) t d).trans rfl

/-- The body's obligation at every point. -/
theorem body_obligation (c : Dev nD) : BodyObligationLoose (dat V c) (defs₀ (F := F)) 𝒱₀ (none : HIx 1) Set.univ := fun t => by
  rw [bigSep_W1, bigSep_W1]
  simp only
  rw [show (dat V c).Φ t.succ = (dat V c).Φ t.castSucc from rfl,
    show (dat V c).owesAt none t.succ = (dat V c).owesAt none t.castSucc from rfl]
  iintro ⟨HΦ, Ho, ⟨%d0, H0⟩, ⟨%d1, H1⟩, ⟨%d2, H2⟩, ⟨%d3, H3⟩, ⟨%d4, H4⟩, ⟨%d5, H5⟩⟩
  rw [before0 V c t d0, before1 V c t d1, before2 V c t d2, before3 V c t d3, before4 V c t d4]
  iapply (bodyRun (F := F) c Set.univ (grid1.coords t) _ _ _ _ _ _ _ _ _ _ _ _ (blkA V c t) (blkB V c t) (tabI V c t) (tabO V c t)
    (win1_4.fill (grid1.coords t) d4 (xcut V c t)) _ _)
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  have hx : win1_4.cut (grid1.coords t) (xfull V c t) = xcut V c t := win1_4.cut_fill _ _ _
  isplitl [H4]
  · iexists d4
    change _ ⊢ owns (c : Thread nD τ) _ fullShare (win1_4.fill (grid1.coords t) d4 (win1_4.cut (grid1.coords t) (xfull V c t)))
    rw [hx]; try iexact H4
  · iexists (tcOut (grid1.coords t 0).val (blkA V c t) (blkB V c t) (tabI V c t) (tabO V c t) (win1_4.fill (grid1.coords t) d4 (xcut V c t)))
    have hc : win1_5.cut (α := F .f32) (grid1.coords t) (tcOut (grid1.coords t 0).val (blkA V c t) (blkB V c t) (tabI V c t) (tabO V c t) (xfull V c t))
        = win1_5.cut (α := F .f32) (grid1.coords t) (tcOut (grid1.coords t 0).val (blkA V c t) (blkB V c t) (tabI V c t) (tabO V c t) (win1_4.fill (grid1.coords t) d4 (xcut V c t))) := by
      have h4 : win1_4.cut (grid1.coords t) (win1_4.fill (grid1.coords t) d4 (xcut V c t)) = xcut V c t := win1_4.cut_fill _ _ _
      funext j
      exact tcOut_congr _ _ _ _ _ _ _ _ (congrFun (hx.trans h4.symm) j)
    change _ ⊢ owns (c : Thread nD τ) (st1_5 t) fullShare (win1_5.fill (α := Elt F win1_5.elt) (grid1.coords t) _ (win1_5.cut (α := Elt F win1_5.elt) (grid1.coords t)
      (tcOut (grid1.coords t 0).val (blkA V c t) (blkB V c t) (tabI V c t) (tabO V c t) (xfull V c t))))
    rw [hc, win1_5.fill_cut]; try iexact H5

/-! ## The region -/

variable (Vp : (c : Dev nD) → (b : Ref sig .tc) → Buf (Elt F) ((c : Thread nD τ).loc b))

/-- The result's array after the region: its blocks written back. -/
def added (c : Dev nD) : Buf (Elt F) ((c : Thread nD τ).loc main_v5) := (dat V c).arrAt 5 cfg1.N

abbrev adm : (p : Fin 1) → (pcfgs (F := F) p).Adm := fun p => (cfgs p).toPCfg_adm

/-- The proof data of the one pipeline. -/
def pdats : (p : Fin 1) → (c : Dev nD) → Dat τ (Elt F) (HIx 1) ℕ UU ℕ (Pipeline.pin (pcfgs (F := F)) adm p) c
  | ⟨0, _⟩ => fun c => dat V c

set_option backward.isDefEq.respectTransparency.types false in
/-- The region: entered with the windows' arrays at `V`, left with the result's array at `added V` and the others as they
    were. -/
def reg (hout : ∀ c, Vp c main_v5 = added V c) (hne : ∀ c (b : Ref sig .tc), b ≠ main_v5 → Vp c b = V c b) :
    Pipeline.RegionSeg (pcfgs (F := F)) adm (pdats V) (none : HIx 1) defs₀ 𝒱₀ (K (F := F)).L (K (F := F)).lev 0 where
  win := winFacts₀1
  block_pos := block_pos1
  stage_whole := stage_whole1
  K := PEmpty
  osem k := k.elim
  ho := Pipeline.OwnSemFacts.none _
  hbody c := body_obligation V c
  hwaits := Pipeline.hwaits_of_owed_zero _ _ _ _ (K (F := F)).L (K (F := F)).lev 0 fun _ _ => rfl
  pre c := iprop(Pipeline.arrBufs spec1 c (V c) ∗ ∃ W, owes (c : Thread nD τ) (0 : CellTallies nD τ sig (HIx 1)) W)
  post c := iprop(Pipeline.arrBufs spec1 c (Vp c) ∗ ∃ W, owes (c : Thread nD τ) (0 : CellTallies nD τ sig (HIx 1)) W)
  X _ := BI.emp
  Y _ := BI.emp
  Z _ := BI.emp
  hentry c := by
    rw [Pipeline.ownSems0_none]
    have hsplit : (Pipeline.arrBufs spec1 c (V c) : sProp 𝕄) = (pdats V 0 c).arrays _ :=
      (pdats V 0 c).arrBufs_eq_arrays sharedIn1 arr_whole1 (fun _ _ => rfl) (V c) ((pdats V 0 c).arrAt · 0) fun _ => rfl
    iintro ⟨⟨Hub, HO⟩, -, -⟩
    ihave Ha := (Entails.of_eq hsplit) $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr <;> iempintro
  hin c := by
    rw [show (pdats V 0 c).Φ 0 = iprop(emp) from rfl]
    iintro ⟨-, -, -⟩; iempintro
  hout c := by
    rw [Pipeline.ownSems0_none]
    iintro -
    isplitr; · iempintro
    isplitr; · iempintro
    rw [show Pipeline.scopedRest (Pipeline.pin (pcfgs (F := F)) adm 0).spec c = (BI.emp : sProp 𝕄) from scopedRest1_eq c]
    iempintro
  hexit c := by
    have hjoin : (Pipeline.arrBufs spec1 c (Vp c) : sProp 𝕄) = (pdats V 0 c).arrays _ :=
      (pdats V 0 c).arrBufs_eq_arrays sharedIn1 arr_whole1 (fun _ _ => rfl) (Vp c) ((pdats V 0 c).arrAt · cfg1.N)
      (fun w => by
        fin_cases w
        · exact ((pdats V 0 c).arrAt_in 0 rfl _).trans (hne c main_v4 (by decide)).symm
        · exact ((pdats V 0 c).arrAt_in 1 rfl _).trans (hne c main_v4 (by decide)).symm
        · exact ((pdats V 0 c).arrAt_in 2 rfl _).trans (hne c main_arg2 (by decide)).symm
        · exact ((pdats V 0 c).arrAt_in 3 rfl _).trans (hne c main_arg3 (by decide)).symm
        · exact ((pdats V 0 c).arrAt_in 4 rfl _).trans (hne c main_arg0 (by decide)).symm
        · exact (hout c).symm)
    iintro ⟨Ha, HO, -, -⟩
    imodintro
    isplitl [Ha]
    · iapply (Entails.of_eq hjoin.symm); iexact Ha
    unfold Pipeline.Dat.owesAt Pipeline.owesWithin
    icases HO with ⟨%W, -, HO⟩; iexists W; iexact HO

/-- The windows' arrays held whole, one by one. -/
theorem arrBufs_eq (c : Dev nD) (B : (b : Ref sig .tc) → Buf (Elt F) ((c : Thread nD τ).loc b)) :
    (Pipeline.arrBufs spec1 c B : sProp 𝕄) = iprop(((c : Thread nD τ).loc main_v4 ↦{fullShare} B main_v4)
      ∗ ((c : Thread nD τ).loc main_arg2 ↦{fullShare} B main_arg2) ∗ ((c : Thread nD τ).loc main_arg3 ↦{fullShare} B main_arg3)
      ∗ ((c : Thread nD τ).loc main_arg0 ↦{fullShare} B main_arg0) ∗ ((c : Thread nD τ).loc main_v5 ↦{fullShare} B main_v5)) := by
  unfold Pipeline.arrBufs
  rw [show Finset.univ.image (Pipeline.arrRef spec1) = {main_v4, main_arg2, main_arg3, main_arg0, main_v5} by decide,
    SparseCore.bigSep_insert' (by decide), SparseCore.bigSep_insert' (by decide), SparseCore.bigSep_insert' (by decide),
    SparseCore.bigSep_insert' (by decide), bigSep_singleton]

end Cert.Proof.Region
-- ==== Proof.Launch.lean ====
/-
  The whole program's run: the launch of the SparseCores' tiles, @main on the TensorCore (the two columns of the edge list, the
  SparseCore call, the TensorCore kernel), and what every final memory holds.
-/
module

public import proofs.«01_k».proof.Proof.Tile
public import proofs.«01_k».proof.Proof.Region

@[expose] public section

noncomputable section

namespace Cert.Proof.Launch

open Cert.KernelIdeal Cert.KernelIdeal.Gen
open Cert.Proof.Common Cert.Proof.TileLoops Cert.Proof.Tile Cert.Proof.Region

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ
local notation "sV" => (Memref.whole Cert.KernelIdeal.main_v1_scv : Memref Cert.KernelIdeal.sig Kind.scVector Space.hbm Cert.KernelIdeal.S160000 EltTy.i32)
local notation "tV" => (Memref.whole Cert.KernelIdeal.main_v3_scv : Memref Cert.KernelIdeal.sig Kind.scVector Space.hbm Cert.KernelIdeal.S160000 EltTy.i32)
local notation "oV" => (Memref.whole Cert.KernelIdeal.main_v4_scv : Memref Cert.KernelIdeal.sig Kind.scVector Space.hbm Cert.KernelIdeal.S32x160x128 EltTy.i32)
local notation "eM" => (Memref.whole Cert.KernelIdeal.cc0_scratch0 : Memref Cert.KernelIdeal.sig Kind.scVector Space.vmem Cert.KernelIdeal.S10000 EltTy.i32)
local notation "hM" => (Memref.whole Cert.KernelIdeal.cc0_scratch1 : Memref Cert.KernelIdeal.sig Kind.scVector Space.vmem Cert.KernelIdeal.S160x128 EltTy.i32)

variable (m : (ℓ : Loc nD τ sig) → Buf (Elt F) ℓ) (ρ : Dev nD → PrngReg)
variable (sF : (d : Dev nD) → Buf (Elt F) (sLoc d)) (tF : (d : Dev nD) → Buf (Elt F) (tLoc d))

/-! ## The tiles -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => cc0__sc_hist_body (coordsV c s)
      sV (Memref.isWhole_whole _) tV (Memref.isWhole_whole _) oV (Memref.isWhole_whole _) eM (Memref.isWhole_whole _) hM (Memref.isWhole_whole _)
      cc0_scratch2 cc0_scoped0) ⟨⟩ c s := rfl

/-- Every tile keeps its obligation, from endpoints below 10240. -/
theorem tileObl (hs : ∀ d j, (sF d j : BitVec 32).toNat < 10240) (ht : ∀ d j, (tF d j : BitVec 32).toNat < 10240)
    (hF : (K (F := F)).Facts) : (K (F := F)).TileObl (D (F := F)) 𝒱 (P m sF tF) v₀ 0 := by
  intro d c i O W hO _ _
  simp only [show (P m sF tF).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m sF tF d (coordsV ⟨_, hci.1⟩ ⟨_, hci.2⟩) (hs d) (ht d) hF O W hO

/-! ## The rows of the partial counts, and the shares of the endpoints -/

omit [FloatOps F] in
theorem rowSet_eq (i : Fin 32) : rowSet i = (row i).set := by
  show ((View.whole (main_v4_scv : Ref sig .scVector)).slice (row i)).set = _
  rw [View.set_slice]; exact Finset.map_refl
omit [FloatOps F] in
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
omit [FloatOps F] in
theorem rows_cover : (Finset.univ : Finset (Fin 32)).biUnion rowSet = Finset.univ :=
  (Finset.biUnion_congr rfl fun i _ => rowSet_eq i).trans (Rect.biUnion_part hdiv)

omit [FloatOps F] in
theorem oPts_rows (d : Dev nD) (f : Buf (Elt F) (oLoc d)) :
    (oLoc d ↦{fullShare} f : sProp 𝕄) = bigSep Finset.univ fun i : Fin 32 => oRow d i f := by
  rw [← pointsTo_biUnion Finset.univ (ℓ := oLoc d) rowSet rows_disjoint, rows_cover]; try rfl

/-- The chunks as the tiles that count them. -/
def widEquiv : Fin 2 × Fin 16 ≃ Fin 32 :=
  Equiv.ofBijective (fun p => wid p.1 p.2) ⟨fun p q h => Prod.ext (wid_injective h).1 (wid_injective h).2, fun w =>
    ⟨(⟨w.val % 2, Nat.mod_lt _ (by decide)⟩, ⟨w.val / 2, by have := w.isLt; omega⟩), Fin.ext (by simp only [wid]; omega)⟩⟩

omit [FloatOps F] in
/-- What is held per chunk is held per SparseCore and tile. -/
theorem by_tile (Φ : Fin 32 → sProp 𝕄) :
    (bigSep Finset.univ Φ) = bigSep Finset.univ fun c : Fin 2 => bigSep Finset.univ fun s : Fin 16 => Φ (wid c s) := by
  rw [bigSep_univ_equiv widEquiv, bigSep_univ_prod]; rfl

/-- The SparseCore call's operands, from the endpoints and the partial counts held whole. -/
theorem st_intro (d : Dev nD) :
    iprop((sLoc d ↦{fullShare} sF d) ∗ (tLoc d ↦{fullShare} tF d) ∗ (oLoc d ↦{fullShare} m (oLoc d)))
      ⊢ (bigSep Finset.univ fun c : Fin ((K (F := F)).nCore 0) => (P m sF tF).st 0 d c : sProp 𝕄) := by
  change _ ⊢ bigSep Finset.univ fun c : Fin 2 => bigSep Finset.univ fun s : Fin 16 => goW m sF tF d (wid c s)
  rw [← by_tile (fun w => goW m sF tF d w), bigSep_sep', bigSep_sep', ← oPts_rows]
  iintro ⟨Hs, Ht, Ho⟩
  ihave Hs := (Transfers.pointsTo_toks (Lvl := ℕ) fullShare 32).1 $$ Hs
  ihave Ht := (Transfers.pointsTo_toks (Lvl := ℕ) fullShare 32).1 $$ Ht
  icases Hs with ⟨-, Hs⟩
  icases Ht with ⟨-, Ht⟩
  isplitl [Hs]; · iexact Hs
  isplitl [Ht]; · iexact Ht
  iexact Ho

/-- What the SparseCore call leaves: the partial counts whole. -/
theorem dn_elim (d : Dev nD) :
    (bigSep Finset.univ fun c : Fin ((K (F := F)).nCore 0) => (P m sF tF).dn 0 d c : sProp 𝕄)
      = (oLoc d ↦{fullShare} outF (sF d) (tF d)) := by
  change (bigSep Finset.univ fun c : Fin 2 => bigSep Finset.univ fun s : Fin 16 => tdW sF tF d (wid c s)) = _
  rw [← by_tile (fun w => tdW sF tF d w), ← oPts_rows]

/-! ## The host operations -/

abbrev dv (b : Ref sig .tc) : DevRef τ sig := Proc.devRef .tc b

abbrev op1 : HloOp τ sig (Elt F) := StableHlo.unary main_arg1 main_v0
  ((extractStridedSlice S160000x1 ![0, 0] · slices_S160000x2_S160000x1_0_0) : (⟨S160000x2, .i32⟩ : BufTy).Contents (Elt F) → (⟨S160000x1, .i32⟩ : BufTy).Contents (Elt F))
abbrev op2 : HloOp τ sig (Elt F) := StableHlo.reshape main_v0 main_v1 (rfl : (.i32 : EltTy) = .i32) shapeCasts_S160000x1_S160000
abbrev op3 : HloOp τ sig (Elt F) := StableHlo.unary main_arg1 main_v2
  ((extractStridedSlice S160000x1 ![0, 1] · slices_S160000x2_S160000x1_0_1) : (⟨S160000x2, .i32⟩ : BufTy).Contents (Elt F) → (⟨S160000x1, .i32⟩ : BufTy).Contents (Elt F))
abbrev op4 : HloOp τ sig (Elt F) := StableHlo.reshape main_v2 main_v3 (rfl : (.i32 : EltTy) = .i32) shapeCasts_S160000x1_S160000

/-- The TensorCore's arrays outside any kernel: the arguments and the results of @main's lines. -/
abbrev S10 : Finset (DevRef τ sig) :=
  {dv main_arg0, dv main_arg1, dv main_arg2, dv main_arg3, dv main_v0, dv main_v1, dv main_v2, dv main_v3, dv main_v4, dv main_v5}

/-- Buffer `b` of the TensorCore of device `d`, and it held whole. -/
abbrev lc (d : Dev nD) (b : Ref sig .tc) : Loc nD τ sig := (SparseCore.T d).loc b
abbrev pt (d : Dev nD) (b : Ref sig .tc) (f : Buf (Elt F) (lc d b)) : sProp 𝕄 := lc d b ↦{fullShare} f

abbrev ten (d : Dev nD) (W : Valuation τ sig (Elt F)) : sProp 𝕄 :=
  iprop(pt d main_arg0 (W (dv main_arg0)) ∗ pt d main_arg1 (W (dv main_arg1)) ∗ pt d main_arg2 (W (dv main_arg2))
    ∗ pt d main_arg3 (W (dv main_arg3)) ∗ pt d main_v0 (W (dv main_v0)) ∗ pt d main_v1 (W (dv main_v1))
    ∗ pt d main_v2 (W (dv main_v2)) ∗ pt d main_v3 (W (dv main_v3)) ∗ pt d main_v4 (W (dv main_v4)) ∗ pt d main_v5 (W (dv main_v5)))

omit [FloatOps F] in
theorem held_S10 (d : Dev nD) (W : Valuation τ sig (Elt F)) : (held (SparseCore.T d) S10 W : sProp 𝕄) = ten d W := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch's contents, and those after @main's first four lines. -/
def V0 (d : Dev nD) : Valuation τ sig (Elt F) := fun b => m (d, b)
def V4 (d : Dev nD) : Valuation τ sig (Elt F) :=
  (op4 (F := F)).result ((op3 (F := F)).result ((op2 (F := F)).result ((op1 (F := F)).result (V0 m d))))

theorem unscoped_held (d : Dev nD) : (unscopedBufs d (fun b => m ((SparseCore.T d).loc b)) : sProp 𝕄) = held (SparseCore.T d) S10 (V0 m d) := by
  rw [held_S10]
  unfold unscopedBufs
  rw [show (Finset.univ.filter fun b : Ref sig .tc => ¬ b.isScoped)
      = {main_arg0, main_arg1, main_arg2, main_arg3, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- A buffer none of the four lines writes is as at the launch. -/
theorem V4_other (d : Dev nD) (b : DevRef τ sig) (h : b ∉ ({dv main_v0, dv main_v1, dv main_v2, dv main_v3} : Finset (DevRef τ sig))) :
    V4 m d b = m (d, b) := by
  simp only [Finset.mem_insert, Finset.mem_singleton, not_or] at h
  unfold V4
  rw [(op4 (F := F)).result_of_not_mem _ (b := b) (show b ∉ ({dv main_v3} : Finset (DevRef τ sig)) by simpa using h.2.2.2),
    (op3 (F := F)).result_of_not_mem _ (b := b) (show b ∉ ({dv main_v2} : Finset (DevRef τ sig)) by simpa using h.2.2.1),
    (op2 (F := F)).result_of_not_mem _ (b := b) (show b ∉ ({dv main_v1} : Finset (DevRef τ sig)) by simpa using h.2.1),
    (op1 (F := F)).result_of_not_mem _ (b := b) (show b ∉ ({dv main_v0} : Finset (DevRef τ sig)) by simpa using h.1)]
  rfl

/-- The edge sources and destinations the SparseCore call reads. -/
def SF (d : Dev nD) : Buf (Elt F) (sLoc d) := V4 m d (dv main_v1)
def TF (d : Dev nD) : Buf (Elt F) (tLoc d) := V4 m d (dv main_v3)

/-- What the TensorCore kernel finds: the four lines' contents, with the partial counts. -/
def Vr (d : Dev nD) (b : Ref sig .tc) : Buf (Elt F) ((d : Thread nD τ).loc b) :=
  Function.update (fun b : Ref sig .tc => (V4 m d (dv b) : Buf (Elt F) ((d : Thread nD τ).loc b))) main_v4 (outF (SF m d) (TF m d)) b
/-- What it leaves. -/
def Vp (d : Dev nD) (b : Ref sig .tc) : Buf (Elt F) ((d : Thread nD τ).loc b) :=
  Function.update (Vr m d) main_v5 (added (Vr m) d) b

theorem Vr_v4 (d : Dev nD) : Vr m d main_v4 = outF (SF m d) (TF m d) := Function.update_self _ _ _
theorem Vr_of_ne (d : Dev nD) (b : Ref sig .tc) (h : b ≠ main_v4) : Vr m d b = V4 m d (dv b) := Function.update_of_ne h _ _
theorem Vp_v5 (d : Dev nD) : Vp m d main_v5 = added (Vr m) d := Function.update_self _ _ _
theorem Vp_of_ne (d : Dev nD) (b : Ref sig .tc) (h : b ≠ main_v5) : Vp m d b = Vr m d b := Function.update_of_ne h _ _
theorem Vr_arg0 (d : Dev nD) : Vr m d main_arg0 = m (lc d main_arg0) := (Vr_of_ne m d _ (by decide)).trans (V4_other m d _ (by decide))
theorem Vr_arg2 (d : Dev nD) : Vr m d main_arg2 = m (lc d main_arg2) := (Vr_of_ne m d _ (by decide)).trans (V4_other m d _ (by decide))
theorem Vr_arg3 (d : Dev nD) : Vr m d main_arg3 = m (lc d main_arg3) := (Vr_of_ne m d _ (by decide)).trans (V4_other m d _ (by decide))
theorem V4_arg1 (d : Dev nD) : V4 m d (dv main_arg1) = m (lc d main_arg1) := V4_other m d _ (by decide)

/-! ## The launch element -/

def u₀ : UU := (initOf (K (F := F)).hsCells (K (F := F)).hsToks,
  (initOf (Pipeline.cells (nD := nD) (τ := τ) cfgs cellOf_inj) (Pipeline.launchToks (nD := nD) (τ := τ) cfgs cellOf_inj), (1 : Counters)))

omit [FloatOps F] in
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- What the launch gives @main of device `d`: its kernel's cells and tokens. -/
def G (d : Dev nD) : sProp 𝕄 :=
  iprop(Pipeline.cellsGhost (Pipeline.pin (pcfgs (F := F)) adm) EP 0 d ∗ Pipeline.toksInit (Pipeline.pin (pcfgs (F := F)) adm) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m sF tF).x q thr) := by
  unfold u₀
  iintro Hu
  ihave H := (ownU_split _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  rw [show (bigSep Finset.univ fun thr : Thread nD τ => bigSep Finset.univ fun q : Fin 1 => (P m sF tF).x q thr) = bigSep Finset.univ fun _ => iprop(emp) from
    bigSep_congr fun _ _ => bigSep_univ_of_subsingleton (0 : Fin 1)]
  iapply (Entails.of_eq (bigSep_emp_const _).symm); iempintro

/-! ## @main on the TensorCore -/

theorem Otc_one (d : Dev nD) : (K (F := F)).Otc d 1 = 0 := by
  unfold SparseCore.Cfg.Otc
  exact Finset.sum_eq_zero fun q _ => if_neg (by have := q.isLt; omega)

theorem wBelow (d : Dev nD) (W : Waits sig (HIx 1)) : (K (F := F)).WBelow (SparseCore.T d) W (8 * SparseCore.Cfg.Blocks.fst (Q := 1) (N := 1) 1) := by
  intro p _
  rcases p with ⟨sm, _ | q⟩
  · exact Nat.zero_le _
  · show 8 * q.val + 6 + 1 ≤ 8 * 1
    have := q.isLt; omega

/-- What @main leaves: the arguments as they were, the result at the TensorCore kernel's. -/
abbrev FIN (d : Dev nD) : sProp 𝕄 :=
  iprop(pt d main_arg0 (m (lc d main_arg0)) ∗ pt d main_arg1 (m (lc d main_arg1)) ∗ pt d main_arg2 (m (lc d main_arg2))
    ∗ pt d main_arg3 (m (lc d main_arg3)) ∗ pt d main_v5 (added (Vr m) d))

theorem h1 : (op1 (F := F)).bufs ⊆ S10 := show ({dv main_arg1, dv main_v0} : Finset (DevRef τ sig)) ⊆ S10 by decide
theorem h2 : (op2 (F := F)).bufs ⊆ S10 := show ({dv main_v0, dv main_v1} : Finset (DevRef τ sig)) ⊆ S10 by decide
theorem h3 : (op3 (F := F)).bufs ⊆ S10 := show ({dv main_arg1, dv main_v2} : Finset (DevRef τ sig)) ⊆ S10 by decide
theorem h4 : (op4 (F := F)).bufs ⊆ S10 := show ({dv main_v2, dv main_v3} : Finset (DevRef τ sig)) ⊆ S10 by decide

set_option backward.isDefEq.respectTransparency.types false in
/-- @main on device `d`'s TensorCore: the two columns of the edges, the SparseCore call, the TensorCore kernel. -/
theorem hmain [∀ e, Nonempty (Elt F e)] (κ : GSem nD τ sig → ℕ) (d : Dev nD) :
    iprop((K (F := F)).ctx EH (P m (SF m) (TF m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  iapply (wp_hlo_within 𝒱 (SparseCore.T d) none Set.univ (op := op1) (S := S10) h1 (V := V0 m d)) $$ [Hb Hheld]
  · isplitl [Hb] <;> iassumption
  iintro ⟨Hb, Hheld⟩
  rw [wp_ret]; imodintro
  iapply (wp_hlo_within 𝒱 (SparseCore.T d) none Set.univ (op := op2) (S := S10) h2 (V := (op1 (F := F)).result (V0 m d))) $$ [Hb Hheld]
  · isplitl [Hb] <;> iassumption
  iintro ⟨Hb, Hheld⟩
  rw [wp_ret]; imodintro
  iapply (wp_hlo_within 𝒱 (SparseCore.T d) none Set.univ (op := op3) (S := S10) h3 (V := (op2 (F := F)).result ((op1 (F := F)).result (V0 m d)))) $$ [Hb Hheld]
  · isplitl [Hb] <;> iassumption
  iintro ⟨Hb, Hheld⟩
  rw [wp_ret]; imodintro
  iapply (wp_hlo_within 𝒱 (SparseCore.T d) none Set.univ (op := op4) (S := S10) h4
    (V := (op3 (F := F)).result ((op2 (F := F)).result ((op1 (F := F)).result (V0 m d))))) $$ [Hb Hheld]
  · isplitl [Hb] <;> iassumption
  iintro ⟨Hb, Hheld⟩
  rw [wp_ret]; imodintro
  have hV : (held (SparseCore.T d) S10 ((op4 (F := F)).result ((op3 (F := F)).result ((op2 (F := F)).result ((op1 (F := F)).result (V0 m d))))) : sProp 𝕄)
      = ten d (V4 m d) := held_S10 d (V4 m d)
  ihave Hh := (Entails.of_eq hV) $$ Hheld
  icases Hh with ⟨Ha0, Ha1, Ha2, Ha3, -, Hs, -, Ht, Ho, Hr⟩
  -- the SparseCore call
  iapply ((K (F := F)).wp_run (D (F := F)) 𝒱 (EH := EH) (P := P m (SF m) (TF m)) κ d 0) $$ [Hst Hs Ht Ho Hb Hts Ha0 Ha1 Ha2 Ha3 Hr HG]
  isplitr; · iexact Hctx
  isplitl [Hst]; · iexact Hst
  isplitl [Hs Ht Ho]
  · iapply (st_intro m (SF m) (TF m) d)
    isplitl [Hs]; · iexact Hs
    isplitl [Ht]; · iexact Ht
    iapply (Entails.of_eq (congrArg (fun f => (oLoc d ↦{fullShare} f : sProp 𝕄)) (V4_other m d (dv main_v4) (by decide)))) $$ Ho
  iintro ⟨Hst, Hdn⟩
  ihave Ho := (Entails.of_eq (dn_elim m (SF m) (TF m) d)) $$ Hdn
  -- the TensorCore kernel
  ihave Hst := (Entails.of_eq (show (K (F := F)).tcSt EH d ((0 : Fin 1).val + 1) = (K (F := F)).tcSt EH d 1 from rfl)) $$ Hst
  unfold SparseCore.Cfg.tcSt
  icases Hst with ⟨⟨%W, -, HO⟩, Hpos, Hreach, Hst1, Hst2⟩
  ihave HO := (Entails.of_eq (congrArg (fun O => (owes (SparseCore.T d) O W : sProp 𝕄)) (Otc_one d))) $$ HO
  ihave Hlev := ((K (F := F)).ctx_levAts (EH := EH) (P := P m (SF m) (TF m)) κ) $$ Hctx
  unfold G
  icases HG with ⟨HG1, HG2⟩
  iapply ((K (F := F)).wp_liftProg (D (F := F)) 𝒱 (SparseCore.T d) Set.univ none (.op (.customCall (Pipeline.entry 0) ()) .ret) _)
  iapply (Pipeline.RegionSeg.wp (pcfgs (F := F)) adm (pdats (Vr m)) (none : HIx 1) cellOf_inj EP defs₀ 𝒱₀ (K (F := F)).L (K (F := F)).lev
    (reg (Vr m) (Vp m) (Vp_v5 m) (fun c b h => Vp_of_ne m c b h)) d none (fun _ h => nomatch h) .ret _)
  isplitl [Hpos Hreach Hst1 Hst2 Hts Ha1]
  · rw [show (reg (Vr m) (Vp m) (Vp_v5 m) (fun c b h => Vp_of_ne m c b h)).post d
      = iprop(Pipeline.arrBufs spec1 d (Vp m d) ∗ ∃ W, owes (d : Thread nD τ) (0 : CellTallies nD τ sig (HIx 1)) W) from rfl, arrBufs_eq]
    iintro ⟨Hb, ⟨-, Ha2, Ha3, Ha0, Hr⟩, %W', HO⟩
    rw [wp_ret]; imodintro; imodintro
    isplitl [HO Hpos Hreach Hst1 Hst2]
    · isplitl [HO]
      · iexists W'
        isplitr; · ipureintro; exact wBelow d W'
        iapply (Entails.of_eq (congrArg (fun O => (owes (SparseCore.T d) O W' : sProp 𝕄)) (Otc_one d)).symm) $$ HO
      isplitl [Hpos]; · iexact Hpos
      isplitl [Hreach]; · iexact Hreach
      isplitl [Hst1]; · iexact Hst1
      iexact Hst2
    isplitl [Ha0 Ha1 Ha2 Ha3 Hr]
    · isplitl [Ha0]; · iapply (Entails.of_eq (congrArg (pt d main_arg0) ((Vp_of_ne m d _ (by decide)).trans (Vr_arg0 m d)))) $$ Ha0
      isplitl [Ha1]; · iapply (Entails.of_eq (congrArg (pt d main_arg1) (V4_arg1 m d))) $$ Ha1
      isplitl [Ha2]; · iapply (Entails.of_eq (congrArg (pt d main_arg2) ((Vp_of_ne m d _ (by decide)).trans (Vr_arg2 m d)))) $$ Ha2
      isplitl [Ha3]; · iapply (Entails.of_eq (congrArg (pt d main_arg3) ((Vp_of_ne m d _ (by decide)).trans (Vr_arg3 m d)))) $$ Ha3
      iapply (Entails.of_eq (congrArg (pt d main_v5) (Vp_v5 m d))) $$ Hr
    isplitl [Hb]; · iexact Hb
    iexact Hts
  isplitl [Hb]; · iexact Hb
  isplitl [Ha0 Ha2 Ha3 Ho Hr HO]
  · rw [show (reg (Vr m) (Vp m) (Vp_v5 m) (fun c b h => Vp_of_ne m c b h)).pre d
      = iprop(Pipeline.arrBufs spec1 d (Vr m d) ∗ ∃ W, owes (d : Thread nD τ) (0 : CellTallies nD τ sig (HIx 1)) W) from rfl, arrBufs_eq]
    isplitr [HO]
    · isplitl [Ho]; · iapply (Entails.of_eq (congrArg (pt d main_v4) (Vr_v4 m d)).symm) $$ Ho
      isplitl [Ha2]; · iapply (Entails.of_eq (congrArg (pt d main_arg2) (Vr_of_ne m d _ (by decide))).symm) $$ Ha2
      isplitl [Ha3]; · iapply (Entails.of_eq (congrArg (pt d main_arg3) (Vr_of_ne m d _ (by decide))).symm) $$ Ha3
      isplitl [Ha0]; · iapply (Entails.of_eq (congrArg (pt d main_arg0) (Vr_of_ne m d _ (by decide))).symm) $$ Ha0
      iapply (Entails.of_eq (congrArg (pt d main_v5) (Vr_of_ne m d _ (by decide))).symm) $$ Hr
    · iexists W; iexact HO
  isplitl [Hlev]; · iexact Hlev
  isplitl [HG1]; · iexact HG1
  iexact HG2

/-! ## The run -/

def fq (d : Dev nD) (s' : Phys nD τ sig (Elt F)) : Prop :=
  s'.mem.mem (lc d main_arg0) = m (lc d main_arg0) ∧ s'.mem.mem (lc d main_arg1) = m (lc d main_arg1) ∧ s'.mem.mem (lc d main_arg2) = m (lc d main_arg2)
    ∧ s'.mem.mem (lc d main_arg3) = m (lc d main_arg3) ∧ s'.mem.mem (lc d main_v5) = added (Vr m) d

omit [FloatOps F] in
/-- A memory the state interpretation agrees with holds what is held of it. -/
theorem reads (d : Dev nD) (b : Ref sig .tc) (f : Buf (Elt F) (lc d b)) (s' : Phys nD τ sig (Elt F)) :
    iprop(SI s' ∗ pt d b f) ⊢ (iprop(⌜s'.mem.mem (lc d b) = f⌝ ∗ SI s' ∗ pt d b f) : sProp 𝕄) := by
  iintro H
  ihave H := (persistent_entails_right (SI_pointsTo_agree (st := s') (ℓ := lc d b) (I := Finset.univ) (q := fullShare) (f := f))) $$ H
  icases H with ⟨%hx, HSI, Hp⟩
  isplitr; · ipureintro; exact funext fun i => hx i (Finset.mem_univ i)
  isplitl [HSI] <;> iassumption

theorem hfin (d : Dev nD) (s' : Phys nD τ sig (Elt F)) : iprop(FIN m d ∗ SI s') ⊢ (⌜fq m d s'⌝ : sProp 𝕄) := by
  iintro ⟨⟨H0, H1, H2, H3, H5⟩, HSI⟩
  ihave H := (reads d main_arg0 _ s') $$ [HSI H0]
  · isplitl [HSI] <;> iassumption
  icases H with ⟨%h0, HSI, -⟩
  ihave H := (reads d main_arg1 _ s') $$ [HSI H1]
  · isplitl [HSI] <;> iassumption
  icases H with ⟨%h1, HSI, -⟩
  ihave H := (reads d main_arg2 _ s') $$ [HSI H2]
  · isplitl [HSI] <;> iassumption
  icases H with ⟨%h2, HSI, -⟩
  ihave H := (reads d main_arg3 _ s') $$ [HSI H3]
  · isplitl [HSI] <;> iassumption
  icases H with ⟨%h3, HSI, -⟩
  ihave H := (reads d main_v5 _ s') $$ [HSI H5]
  · isplitl [HSI] <;> iassumption
  icases H with ⟨%h5, -, -⟩
  ipureintro; exact ⟨h0, h1, h2, h3, h5⟩

/-- The final memories: the arguments as they were, the result at `added`, every semaphore zero. -/
def QC : PUnit × MemSt nD τ sig (Elt F) → Prop := fun r =>
  (∀ d : Dev nD, r.2.mem (lc d main_arg0) = m (lc d main_arg0) ∧ r.2.mem (lc d main_arg1) = m (lc d main_arg1)
    ∧ r.2.mem (lc d main_arg2) = m (lc d main_arg2) ∧ r.2.mem (lc d main_arg3) = m (lc d main_arg3) ∧ r.2.mem (lc d main_v5) = added (Vr m) d)
  ∧ r.2.sem = fun _ => 0

/-- From endpoints below 10240 every run of the program ends so. -/
theorem run_main [∀ e, Nonempty (Elt F e)] (hs : ∀ d j, (SF m d j : BitVec 32).toNat < 10240) (ht : ∀ d j, (TF m d j : BitVec 32).toNat < 10240) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (SF m) (TF m)) (A := ∅) facts v₀
    (fun q hq => match q with | 0 => nomatch hq)
    (fun q _ => match q with | 0 => tileObl m (SF m) (TF m) hs ht facts)
    (fun q _ => match q with | 0 => SparseCore.Cfg.VecSplit.of_plain (vecSplit m (SF m) (TF m)))
    m ρ main G (FIN m) (u₀ (F := F)) (sep_elim_left.trans (hu₀ m (SF m) (TF m))) (hmain m ρ) (fq m) (hfin m) (QC m) (fun _ h hz => ⟨h, hz⟩)

end Cert.Proof.Launch
-- ==== Proof.Columns.lean ====
/-
  The two columns of the edge list, as the kernel's and the reference's first lines cut them, and the bound the precondition
  gives on every endpoint.
-/
module

public import proofs.«01_k».proof.Defs
public import Idealize.ShloMosaic.Lib.ValueLayout
public import Idealize.ShloMosaic.Lib.Pipeline.Value
public import Idealize.ShloMosaic.Lib.ReduceAll

@[expose] public section

noncomputable section

namespace Cert.Proof.Columns

open Idealize.ShloMosaic Idealize.ShloMosaic.ValueIdx

/-- Column `k` of a list of pairs, cut out and laid flat, read at place `j`. -/
theorem column_apply {α : Type} (k : Fin 2) (e : (⟨2, ![160000, 2]⟩ : Shape).Idx → α)
    (hs : (⟨2, ![160000, 2]⟩ : Shape).Slices ![0, k.val] ⟨2, ![160000, 1]⟩) (hc : (⟨2, ![160000, 1]⟩ : Shape).ShapeCasts ⟨1, ![160000]⟩)
    (j : Fin 160000) :
    shapeCast ⟨1, ![160000]⟩ (extractStridedSlice ⟨2, ![160000, 1]⟩ ![0, k.val] e hs) hc (ix1 j) = e (ix2 j k) :=
  (shapeCast_apply _ hc (ix1 j) (ix2 j (0 : Fin 1)) (by
    rw [Shape.rowMajor_val_two, Shape.rowMajor_val_one]
    show j.val * 1 + 0 = j.val
    omega)).trans (extractStridedSlice_apply _ e hs _ _ fun a => by
    match a with
    | ⟨0, _⟩ => show j.val = 0 + j.val; omega
    | ⟨1, _⟩ => show k.val = k.val + 0; omega)

/-- An index of a vector by its one coordinate. -/
theorem eta1 {n : ℕ} (j : (⟨1, ![n]⟩ : Shape).Idx) : j = ix1 (n := n) (j 0) := by
  funext a; match a with | ⟨0, _⟩ => rfl

/-- A word at least 0 and below 10000, read signed. -/
theorem lt_of_between (a : BitVec 32) (h : IntOp.andi (IntOp.cmpi .sge a 0#32) (IntOp.cmpi .slt a 10000#32) = 1#1) : a.toNat < 10000 := by
  simp only [IntOp.andi, IntOp.cmpi] at h
  have h2 : (0#32).sle a = true ∧ a.slt 10000#32 = true := by
    revert h
    cases (0#32).sle a <;> cases a.slt 10000#32 <;> simp
  have h3 := h2.1
  have h4 := h2.2
  simp only [BitVec.sle, BitVec.slt, decide_eq_true_eq] at h3 h4
  have h5 : (0#32).toInt = 0 := by decide
  have h6 : (10000#32).toInt = 10000 := by decide
  have h7 := a.isLt
  rw [h5, BitVec.toInt_eq_toNat_cond] at h3
  rw [h6, BitVec.toInt_eq_toNat_cond] at h4
  split at h3 <;> omega

/-- Under the precondition every endpoint is below 10000. -/
theorem endpoints_lt [Cert.Pre_in_range.Facts] {F : FTy → Type} [FloatOps F] (x : FVec F Cert.Pre_in_range.S8x10000x256 .f32)
    (e : IVec Cert.Pre_in_range.S160000x2 32) (zi zo : FVec F Cert.Pre_in_range.S64x256 .f32)
    (h : Cert.Pre_in_range.fn x e zi zo = fun _ => 1#1) (i : Cert.Pre_in_range.S160000x2.Idx) : (e i).toNat < 10000 := by
  haveI : Subsingleton Cert.Pre_in_range.S_.Idx := ⟨fun a b => funext fun k => k.elim0⟩
  have h0 := congrFun h (fun k => k.elim0)
  unfold Cert.Pre_in_range.fn at h0
  exact lt_of_between _ (Host.reduce_andi_all _ _ _ _ _ h0 i)

end Cert.Proof.Columns
-- ==== Proof.Frames.lean ====
/-
  The frames: every run of the kernel and of the reference ends with the arguments unchanged and every semaphore zero.
-/
module

public import proofs.«01_k».proof.Proof.Launch
public import proofs.«01_k».proof.Proof.Columns
public import proofs.«01_k».proof.Proof.Gen.Kernel
public import proofs.«01_k».proof.Proof.Gen.ReferenceIdeal.Run
public import proofs.«01_k».proof.Proof.Gen.Pre_in_range

@[expose] public section

noncomputable section

namespace Cert.Proof.Frames

open Cert.KernelIdeal Cert.KernelIdeal.Gen
open Cert.Proof.Launch Cert.Proof.Common Cert.Proof.Columns
open Idealize.ShloMosaic Idealize.SL.Sem Idealize.ShloMosaic.TcCoe
open Idealize.ShloMosaic.StableHlo (unary_result reshape_result unary_result_ne reshape_result_ne)

variable {F : FTy → Type} [FloatOps F] (m : (ℓ : Loc nD τ sig) → Buf (Elt F) ℓ)

/-- The edge list. -/
abbrev edges (d : Dev nD) : S160000x2.Idx → BitVec 32 := m (lc d main_arg1)

/-- The sources the SparseCore call reads are the edge list's first column. -/
theorem SF_apply (d : Dev nD) (j : Fin 160000) : (SF m d : S160000.Idx → BitVec 32) (ValueIdx.ix1 j) = edges m d (ValueIdx.ix2 j (0 : Fin 2)) := by
  have e : SF m d = shapeCast S160000 (extractStridedSlice S160000x1 ![0, 0] (edges m d) slices_S160000x2_S160000x1_0_0) shapeCasts_S160000x1_S160000 := by
    unfold SF V4
    rw [reshape_result_ne (h := by decide), unary_result_ne (h := by decide), reshape_result, unary_result]
    rfl
  rw [e]
  exact column_apply (0 : Fin 2) _ _ _ j

/-- The destinations it reads are the second column. -/
theorem TF_apply (d : Dev nD) (j : Fin 160000) : (TF m d : S160000.Idx → BitVec 32) (ValueIdx.ix1 j) = edges m d (ValueIdx.ix2 j (1 : Fin 2)) := by
  have e : TF m d = shapeCast S160000 (extractStridedSlice S160000x1 ![0, 1] (edges m d) slices_S160000x2_S160000x1_0_1) shapeCasts_S160000x1_S160000 := by
    unfold TF V4
    rw [reshape_result, unary_result, reshape_result_ne (h := by decide), unary_result_ne (h := by decide)]
    rfl
  rw [e]
  exact column_apply (1 : Fin 2) _ _ _ j

theorem SF_lt (he : ∀ d i, (edges m d i).toNat < 10000) (d : Dev nD) (j) : (SF m d j : BitVec 32).toNat < 10240 := by
  have e : SF m d j = edges m d (ValueIdx.ix2 (j 0) (0 : Fin 2)) := (congrArg (SF m d) (eta1 j)).trans (SF_apply m d (j 0))
  rw [e]; have := he d (ValueIdx.ix2 (j 0) (0 : Fin 2)); omega
theorem TF_lt (he : ∀ d i, (edges m d i).toNat < 10000) (d : Dev nD) (j) : (TF m d j : BitVec 32).toNat < 10240 := by
  have e : TF m d j = edges m d (ValueIdx.ix2 (j 0) (1 : Fin 2)) := (congrArg (TF m d) (eta1 j)).trans (TF_apply m d (j 0))
  rw [e]; have := he d (ValueIdx.ix2 (j 0) (1 : Fin 2)); omega

/-- From endpoints in range, every run of the kernel ends as `QC` says. -/
theorem run_in_range [∀ e, Nonempty (Elt F e)] (ρ : Dev nD → PrngReg) (he : ∀ d i, (edges m d i).toNat < 10000) :
    θ_run (Cert.KernelIdeal.defs (F := F)) (Cert.KernelIdeal.threads (F := F)) ⟨m, fun _ => 0, ρ⟩ (QC m) :=
  run_main m ρ (SF_lt m he) (TF_lt m he)

/-- The kernel over the extended reals. -/
theorem frame_ideal : Cert.quiescent_KernelIdeal (hKernelIdeal := Cert.KernelIdeal.Gen.facts) (hPre_in_range := Cert.Pre_in_range.Gen.facts) :=
  fun m ρ hp => (θ_run Cert.KernelIdeal.defs _ _).mono (fun _ h => ⟨fun c => ⟨(h.1 c).1, (h.1 c).2.1, (h.1 c).2.2.1, (h.1 c).2.2.2.1⟩, h.2⟩)
    (run_in_range (F := Ideal) m ρ fun d i => endpoints_lt _ _ _ _ (hp d) i)

/-- The two texts' tables of kernel bodies are one: case by case on the processor and the label. -/
theorem defs₀_eq : @Cert.Kernel.defs₀ F _ Cert.Kernel.Gen.facts = @Cert.KernelIdeal.defs₀ F _ Cert.KernelIdeal.Gen.facts := by
  funext p ℓ a
  cases p <;> rcases ℓ with ⟨_ | _ | n, h⟩ <;> first | rfl | exact absurd h (by omega)

/-- So are the tables with the launches. -/
theorem defs_eq : @Cert.Kernel.defs F _ Cert.Kernel.Gen.facts = @Cert.KernelIdeal.defs F _ Cert.KernelIdeal.Gen.facts :=
  congrArg (fun D => (Cert.KernelIdeal.sc (F := F)).defs (Pipeline.defs Cert.KernelIdeal.pcfgs D)) defs₀_eq

/-- And the threads. -/
theorem threads_eq : @Cert.Kernel.threads F _ = @Cert.KernelIdeal.threads F _ := rfl

/-- The kernel on words: its text is the same. -/
theorem frame_kernel : Cert.quiescent_Kernel (hKernel := Cert.Kernel.Gen.facts) (hPre_in_range := Cert.Pre_in_range.Gen.facts) := by
  intro m ρ hp
  rw [defs_eq, threads_eq]
  exact (θ_run Cert.KernelIdeal.defs _ _).mono (fun _ h => ⟨fun c => ⟨(h.1 c).1, (h.1 c).2.1, (h.1 c).2.2.1, (h.1 c).2.2.2.1⟩, h.2⟩)
    (run_in_range (F := Bits) m ρ fun d i => endpoints_lt _ _ _ _ (hp d) i)

/-- The reference. -/
theorem frame_ref : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems (by decide) r.2⟩)
    (Cert.ReferenceIdeal.Value.run (F := Ideal) m ρ)

theorem frame_ref_in_range : Cert.quiescent_ReferenceIdeal_pre_in_range (hReferenceIdeal := Cert.ReferenceIdeal.Gen.facts)
    (hPre_in_range := Cert.Pre_in_range.Gen.facts) :=
  fun m ρ _ => frame_ref m ρ trivial

end Cert.Proof.Frames
-- ==== Proof.Array.lean ====
/-
  The TensorCore pipeline's blocks at their places in the arrays, and its result's array from what its points write back.
-/
module

public import proofs.«01_k».proof.Proof.Region
public import Idealize.ShloMosaic.Lib.ValueIdxCore
public import Idealize.ShloMosaic.Lib.Pipeline.ValueKit.Geometry

@[expose] public section

noncomputable section

namespace Cert.Proof.Array

open Cert.KernelIdeal Cert.KernelIdeal.Gen
open Cert.Proof.TcBody Cert.Proof.Region
open Idealize.ShloMosaic
open Idealize.ShloMosaic.TcCoe
open Idealize.ShloMosaic.Pipeline (Dat)

variable {F : FTy → Type} [FloatOps F]

/-- A point's one coordinate is its number, below ten. -/
theorem coord (t : Fin cfg1.N) : (grid1.coords t 0).val = t.val ∧ t.val < 10 := by
  have h : ∀ t : Fin grid1.N, (grid1.coords t 0).val = t.val ∧ t.val < 10 := by decide
  exact h t

theorem index0 (t : Fin cfg1.N) : ∀ a, win1_0.index t a = ![0, t.val, 0] a := by
  have h : ∀ t : Fin grid1.N, ∀ a, win1_0.index t a = ![0, t.val, 0] a := by decide
  exact h t
theorem index1 (t : Fin cfg1.N) : ∀ a, win1_1.index t a = ![0, t.val + 10, 0] a := by
  have h : ∀ t : Fin grid1.N, ∀ a, win1_1.index t a = ![0, t.val + 10, 0] a := by decide
  exact h t
theorem index2 (t : Fin cfg1.N) : ∀ a, win1_2.index t a = ![0, 0] a := by
  have h : ∀ t : Fin grid1.N, ∀ a, win1_2.index t a = ![0, 0] a := by decide
  exact h t
theorem index3 (t : Fin cfg1.N) : ∀ a, win1_3.index t a = ![0, 0] a := by
  have h : ∀ t : Fin grid1.N, ∀ a, win1_3.index t a = ![0, 0] a := by decide
  exact h t
theorem index4 (t : Fin cfg1.N) : ∀ a, win1_4.index t a = ![0, t.val, 0] a := by
  have h : ∀ t : Fin grid1.N, ∀ a, win1_4.index t a = ![0, t.val, 0] a := by decide
  exact h t
theorem index5 (t : Fin cfg1.N) : ∀ a, win1_5.index t a = ![0, t.val, 0] a := by
  have h : ∀ t : Fin grid1.N, ∀ a, win1_5.index t a = ![0, t.val, 0] a := by decide
  exact h t

/-- What a transfer of the result or of the input moves: the block's part inside the array. -/
theorem xsize5 (t : Fin cfg1.N) : ∀ a, win1_5.xsize (grid1.coords t) a = ![8, min 1024 (10000 - 1024 * t.val), 256] a := by
  have h : ∀ t : Fin grid1.N, ∀ a, win1_5.xsize (grid1.coords t) a = ![8, min 1024 (10000 - 1024 * t.val), 256] a := by decide
  exact h t

variable (V : (c : Dev nD) → (b : Ref sig .tc) → Buf (Elt F) ((c : Thread nD τ).loc b))

theorem blkA_apply (c : Dev nD) (t : Fin cfg1.N) (w : Fin 32) (k : Fin 8) (p : Fin 128) :
    blkA V c t (ValueIdx.ix3 w k p) = V c main_v4 (ValueIdx.ix3 w ⟨8 * t.val + k.val, by have := (coord t).2; omega⟩ p) := by
  refine congrArg (V c main_v4) (funext fun a => Fin.ext ?_)
  refine (win1_0.rect_emb_val_off t (ValueIdx.ix3 w k p) a).trans ?_
  show win1_0.index t a * win1_0.size a + _ = _
  rw [index0]
  match a with
  | ⟨0, _⟩ => show 0 * 32 + w.val = w.val; omega
  | ⟨1, _⟩ => show t.val * 8 + k.val = 8 * t.val + k.val; omega
  | ⟨2, _⟩ => show 0 * 128 + p.val = p.val; omega

theorem blkB_apply (c : Dev nD) (t : Fin cfg1.N) (w : Fin 32) (k : Fin 8) (p : Fin 128) :
    blkB V c t (ValueIdx.ix3 w k p) = V c main_v4 (ValueIdx.ix3 w ⟨80 + (8 * t.val + k.val), by have := (coord t).2; omega⟩ p) := by
  refine congrArg (V c main_v4) (funext fun a => Fin.ext ?_)
  refine (win1_1.rect_emb_val_off t (ValueIdx.ix3 w k p) a).trans ?_
  show win1_1.index t a * win1_1.size a + _ = _
  rw [index1]
  match a with
  | ⟨0, _⟩ => show 0 * 32 + w.val = w.val; omega
  | ⟨1, _⟩ => show (t.val + 10) * 8 + k.val = 80 + (8 * t.val + k.val); omega
  | ⟨2, _⟩ => show 0 * 128 + p.val = p.val; omega

theorem tabI_apply (c : Dev nD) (t : Fin cfg1.N) (r : Fin 64) (q : Fin 256) :
    tabI V c t (ValueIdx.ix2 r q) = V c main_arg2 (ValueIdx.ix2 r q) := by
  refine congrArg (V c main_arg2) (funext fun a => Fin.ext ?_)
  refine (win1_2.rect_emb_val_off t (ValueIdx.ix2 r q) a).trans ?_
  show win1_2.index t a * win1_2.size a + _ = _
  rw [index2]
  match a with
  | ⟨0, _⟩ => show 0 * 64 + r.val = r.val; omega
  | ⟨1, _⟩ => show 0 * 256 + q.val = q.val; omega

theorem tabO_apply (c : Dev nD) (t : Fin cfg1.N) (r : Fin 64) (q : Fin 256) :
    tabO V c t (ValueIdx.ix2 r q) = V c main_arg3 (ValueIdx.ix2 r q) := by
  refine congrArg (V c main_arg3) (funext fun a => Fin.ext ?_)
  refine (win1_3.rect_emb_val_off t (ValueIdx.ix2 r q) a).trans ?_
  show win1_3.index t a * win1_3.size a + _ = _
  rw [index3]
  match a with
  | ⟨0, _⟩ => show 0 * 64 + r.val = r.val; omega
  | ⟨1, _⟩ => show 0 * 256 + q.val = q.val; omega

/-- A place of the result's block that the write-back at `t` moves, as numbers. -/
theorem bounds (t : Fin cfg1.N) (y : (win1_5.xblock (grid1.coords t)).Idx) : (y 1).val < 1024 ∧ 1024 * t.val + (y 1).val < 10000 := by
  have h : (y 1).val < ![8, min 1024 (10000 - 1024 * t.val), 256] (1 : Fin 3) := lt_of_lt_of_eq (y 1).isLt (xsize5 t 1)
  have h' : (y 1).val < min 1024 (10000 - 1024 * t.val) := h
  omega

/-- The place in the result's array of a place of its block. -/
theorem emb5 (t : Fin cfg1.N) (y : (win1_5.xblock (grid1.coords t)).Idx) (b : Fin 8) (n : Fin 10000) (q : Fin 256)
    (hb : (y 0).val = b.val) (hn : 1024 * t.val + (y 1).val = n.val) (hq : (y 2).val = q.val) :
    (win1_5.blk t).view.emb y = (ValueIdx.ix3 b n q : S8x10000x256.Idx) := by
  refine funext fun a => Fin.ext ?_
  refine (win1_5.rect_emb_val_off t y a).trans ?_
  show win1_5.index t a * win1_5.size a + _ = _
  rw [index5]
  match a with
  | ⟨0, _⟩ => show 0 * 8 + (y 0).val = b.val; omega
  | ⟨1, _⟩ => show t.val * 1024 + (y 1).val = n.val; omega
  | ⟨2, _⟩ => show 0 * 256 + (y 2).val = q.val; omega

/-- The input's block inside the array. -/
theorem xfull_apply (c : Dev nD) (t : Fin cfg1.N) (y : (win1_4.xblock (grid1.coords t)).Idx) (b : Fin 8) (n : Fin 10000) (q : Fin 256)
    (hb : (y 0).val = b.val) (hn : 1024 * t.val + (y 1).val = n.val) (hq : (y 2).val = q.val) :
    xfull V c t (win1_4.xinj (grid1.coords t) y) = V c main_arg0 (ValueIdx.ix3 b n q) := by
  refine (win1_4.fill_xinj (grid1.coords t) _ (xcut V c t) y).trans ?_
  refine congrArg (V c main_arg0) (funext fun a => Fin.ext ?_)
  refine (win1_4.rect_emb_val_off t y a).trans ?_
  show win1_4.index t a * win1_4.size a + _ = _
  rw [index4]
  match a with
  | ⟨0, _⟩ => show 0 * 8 + (y 0).val = b.val; omega
  | ⟨1, _⟩ => show t.val * 1024 + (y 1).val = n.val; omega
  | ⟨2, _⟩ => show 0 * 256 + (y 2).val = q.val; omega

/-- The result's array is `G` when every point's block is `G` there. -/
theorem added_eq (c : Dev nD) (G : S8x10000x256.Idx → F .f32)
    (h : ∀ (t : Fin cfg1.N) (x : Vec F S8x1024x256 .f32) (b : Fin 8) (r : Fin 1024) (n : Fin 10000) (q : Fin 256), n.val = 1024 * t.val + r.val →
      x (ValueIdx.ix3 b r q) = V c main_arg0 (ValueIdx.ix3 b n q) →
      tcOut t.val (blkA V c t) (blkB V c t) (tabI V c t) (tabO V c t) x (ValueIdx.ix3 b r q) = G (ValueIdx.ix3 b n q)) :
    added V c = G := by
  refine (dat V c).arrAt_eq_of_cover (5 : Fin 6) G (fun t _ => ?_) (fun i => ?_)
  · funext y
    have hy := bounds t y
    have h0 : (y 0).val < 8 := lt_of_lt_of_eq (y 0).isLt (xsize5 t 0)
    have h2 : (y 2).val < 256 := lt_of_lt_of_eq (y 2).isLt (xsize5 t 2)
    have hx := xfull_apply V c t y ⟨(y 0).val, h0⟩ ⟨1024 * t.val + (y 1).val, hy.2⟩ ⟨(y 2).val, h2⟩ rfl rfl rfl
    have ej : win1_4.xinj (grid1.coords t) y = (ValueIdx.ix3 (⟨(y 0).val, h0⟩ : Fin 8) (⟨(y 1).val, hy.1⟩ : Fin 1024) (⟨(y 2).val, h2⟩ : Fin 256) : S8x1024x256.Idx) := by
      funext a
      match a with
      | ⟨0, _⟩ => rfl
      | ⟨1, _⟩ => rfl
      | ⟨2, _⟩ => rfl
    rw [ej] at hx
    have hG := h t (xfull V c t) _ _ _ _ rfl hx
    refine Eq.trans ?_ (hG.trans (congrArg G (emb5 t y _ _ _ rfl rfl rfl).symm))
    show tcOut (grid1.coords t 0).val _ _ _ _ _ (win1_4.xinj (grid1.coords t) y) = _
    rw [(coord t).1, ej]
  · have hi : (i 1).val < 10000 := (i 1).isLt
    have h0 : (i 0).val < 8 := (i 0).isLt
    have h2 : (i 2).val < 256 := (i 2).isLt
    let t : Fin cfg1.N := ⟨(i 1).val / 1024, by show (i 1).val / 1024 < 10; omega⟩
    have hs := xsize5 t
    let y : (win1_5.xblock (grid1.coords t)).Idx := fun a => ⟨![(i 0).val, (i 1).val % 1024, (i 2).val] a, by
      refine lt_of_lt_of_eq ?_ (hs a).symm
      match a with
      | ⟨0, _⟩ => exact h0
      | ⟨1, _⟩ => show (i 1).val % 1024 < min 1024 (10000 - 1024 * ((i 1).val / 1024)); omega
      | ⟨2, _⟩ => exact h2⟩
    refine ⟨t, flush1_5 t, ?_⟩
    have e : (win1_5.blk t).view.emb y = i := by
      refine (emb5 t y (i 0) (i 1) (i 2) rfl ?_ rfl).trans ?_
      · show 1024 * ((i 1).val / 1024) + (i 1).val % 1024 = (i 1).val; omega
      · funext a
        match a with
        | ⟨0, _⟩ => rfl
        | ⟨1, _⟩ => rfl
        | ⟨2, _⟩ => rfl
    exact e ▸ (win1_5.blk t).view.emb_mem_set y

end Cert.Proof.Array

end
-- ==== Proof.Degree.lean ====
/-
  The mathematics that both programs compute: how many edges end at a node, the row of a table that this count picks, and the
  encoded array.
-/
module

public import Idealize.ShloMosaic.Lib.ValueIdxCore
public import Idealize.ShloMosaic.Lib.WordArith
public import Idealize.ShloMosaic.PureOps.Ideal

@[expose] public section

noncomputable section

namespace Cert.Proof.Degree

open Idealize.ShloMosaic
open scoped BigOperators

/-- How many of the 160000 places of `g` hold the number `n`. -/
def count (g : Fin 160000 → BitVec 32) (n : ℕ) : ℕ := ∑ j : Fin 160000, if (g j).toNat = n then 1 else 0

theorem count_le (g : Fin 160000 → BitVec 32) (n : ℕ) : count g n ≤ 160000 := by
  unfold count
  calc _ ≤ ∑ _j : Fin 160000, 1 := Finset.sum_le_sum fun j _ => by split <;> omega
    _ = 160000 := by simp

/-- The row of a table of 64 that a count picks: the last one for 63 and more. -/
def row (k : ℕ) : Fin 64 := ⟨min k 63, by omega⟩

/-- Column `k` of the edge list: 0 for the sources, 1 for the destinations. -/
def col (e : (⟨2, ![160000, 2]⟩ : Shape).Idx → BitVec 32) (k : Fin 2) (j : Fin 160000) : BitVec 32 := e (ValueIdx.ix2 j k)

/-- The signed minimum of a count and 63. -/
theorem minsi_count (k : ℕ) (h : k ≤ 160000) : IntOp.minsi (BitVec.ofNat 32 k) 63#32 = BitVec.ofNat 32 (row k).val := by
  apply BitVec.eq_of_toNat_eq
  have h1 : (BitVec.ofNat 32 k).toNat = k := by rw [BitVec.toNat_ofNat]; omega
  rw [WordArith.toNat_minsi_of_lt _ _ (by rw [h1]; omega) (by decide), h1, BitVec.toNat_ofNat]
  show min k 63 = min k 63 % 2 ^ 32
  omega

/-- A sum of naturals, taken over the extended reals. -/
theorem coe_sum {ι : Type} (s : Finset ι) (f : ι → ℕ) : ∑ j ∈ s, (((f j : ℕ) : ℝ) : EReal) = (((∑ j ∈ s, f j : ℕ) : ℝ) : EReal) := by
  classical
  induction s using Finset.induction_on with
  | empty => simp
  | insert a s ha ih => rw [Finset.sum_insert ha, Finset.sum_insert ha, ih, Nat.cast_add, EReal.coe_add]

/-- The extended real that is a count, converted to a word. -/
theorem fptosi_count (k : ℕ) (h : k ≤ 160000) : Ideal.fptosi 32 (((k : ℕ) : ℝ) : EReal) = BitVec.ofNat 32 k := by
  unfold Ideal.fptosi
  rw [Ideal.toIntClamped_coe, if_pos (Nat.cast_nonneg k), Int.floor_natCast]
  have e : max (-((2 ^ (32 - 1) : ℕ) : Int)) (min (((2 ^ (32 - 1) : ℕ) : Int) - 1) (k : Int)) = (k : Int) := by
    rw [show ((2 ^ (32 - 1) : ℕ) : Int) = 2147483648 by norm_num]
    omega
  rw [e, BitVec.ofInt_natCast]

/-- The encoded array: node 0 keeps its entry; every other node's entry gets the row of `zi` that its incoming degree picks and
    the row of `zo` that its outgoing degree picks. -/
def encoded (x : (⟨3, ![8, 10000, 256]⟩ : Shape).Idx → EReal) (e : (⟨2, ![160000, 2]⟩ : Shape).Idx → BitVec 32)
    (zi zo : (⟨2, ![64, 256]⟩ : Shape).Idx → EReal) (b : Fin 8) (n : Fin 10000) (c : Fin 256) : EReal :=
  if n.val = 0 then x (ValueIdx.ix3 b n c)
  else x (ValueIdx.ix3 b n c) + (zi (ValueIdx.ix2 (row (count (col e 1) n.val)) c) + zo (ValueIdx.ix2 (row (count (col e 0) n.val)) c))

end Cert.Proof.Degree

end
-- ==== Proof.Total.lean ====
/-
  The partial counts of the 32 tiles, summed: at a place of the first half the number of edges whose source is the place's
  node, at a place of the second half the number of edges whose destination is.
-/
module

public import proofs.«01_k».proof.Proof.Common
public import proofs.«01_k».proof.Proof.Degree
public import Idealize.ShloMosaic.Lib.WordSum
public import Idealize.ShloMosaic.Lib.Pointwise.Index

@[expose] public section

noncomputable section

namespace Cert.Proof.Total

open Cert.KernelIdeal Cert.KernelIdeal.Gen
open Cert.Proof.Hist Cert.Proof.Common Cert.Proof.Degree
open Idealize.ShloMosaic
open scoped BigOperators

variable (s t : S160000.Idx → BitVec 32)

/-- One if `u` holds `n` at place `j`. -/
def has (u : S160000.Idx → BitVec 32) (n : ℕ) (j : ℕ) : ℕ :=
  if hj : j < 160000 then (if (u (ValueIdx.ix1 ⟨j, hj⟩)).toNat = n then 1 else 0) else 0

theorem at16_eq (w : Fin 32) (j : Fin 10000) (k : Fin 160000) (h : k.val = 10000 * (w.val % 16) + j.val) : at16 w j = ValueIdx.ix1 k := by
  funext a
  match a with
  | ⟨0, _⟩ => exact Fin.ext h.symm

theorem count_eq (u : S160000.Idx → BitVec 32) (n : ℕ) : Degree.count (fun j => u (ValueIdx.ix1 j)) n = ∑ j ∈ Finset.range 160000, has u n j := by
  unfold Degree.count
  rw [← Fin.sum_univ_eq_sum_range (has u n) 160000]
  refine Finset.sum_congr rfl fun j _ => ?_
  unfold has
  rw [dif_pos j.isLt]

/-- A sum over `k` runs of `N` is the sum over their `N k` places. -/
theorem sum_chunks (N : ℕ) (f : ℕ → ℕ) (k : ℕ) : ∑ w ∈ Finset.range k, ∑ j ∈ Finset.range N, f (N * w + j) = ∑ j ∈ Finset.range (N * k), f j := by
  induction k with
  | zero => simp
  | succ k ih => rw [Finset.sum_range_succ, ih, Nat.mul_succ, Finset.sum_range_add]

variable (hs : ∀ j, (s j).toNat < 10000) (ht : ∀ j, (t j).toNat < 10000)

/-- The chunk that tile `w` counts, of the sources for the first sixteen and of the destinations for the others. -/
def mine (w : ℕ) : S160000.Idx → BitVec 32 := if w < 16 then s else t

include hs ht in
/-- What tile `w` counts at a place of half `k`: nothing when the tile is of the other half. -/
theorem hits_eq (w : Fin 32) (k : ℕ) (n : ℕ) (hn : n < 10240) (y : S160x128.Idx) (hy : 128 * (y 0).val + (y 1).val = n + 10240 * k) :
    hits (chunk s t w) (w.val / 16) y 10000
      = if w.val / 16 = k then ∑ j ∈ Finset.range 10000, has (mine s t w.val) n (10000 * (w.val % 16) + j) else 0 := by
  unfold hits
  have key : ∀ j ∈ Finset.range 10000, hit (chunk s t w) (w.val / 16) y j
      = if w.val / 16 = k then has (mine s t w.val) n (10000 * (w.val % 16) + j) else 0 := by
    intro j hj
    have hj := Finset.mem_range.1 hj
    have hw := Nat.mod_lt w.val (show 0 < 16 by decide)
    have hj' : 10000 * (w.val % 16) + j < 160000 := by omega
    have e : chunk s t w (at1 j hj) = mine s t w.val (ValueIdx.ix1 ⟨10000 * (w.val % 16) + j, hj'⟩) := by
      have e' := at16_eq w ⟨j, hj⟩ ⟨10000 * (w.val % 16) + j, hj'⟩ rfl
      unfold chunk mine
      by_cases h : w.val < 16
      · rw [if_pos h, if_pos h]; exact congrArg s e'
      · rw [if_neg h, if_neg h]; exact congrArg t e'
    have hb : (chunk s t w (at1 j hj)).toNat < 10000 := by
      rw [e]; unfold mine
      by_cases h : w.val < 16
      · rw [if_pos h]; exact hs _
      · rw [if_neg h]; exact ht _
    unfold hit has
    rw [dif_pos hj, dif_pos hj', hy, ← e]
    by_cases hk : w.val / 16 = k
    · rw [if_pos hk, hk]
      by_cases q : (chunk s t w (at1 j hj)).toNat = n
      · rw [if_pos (by omega), if_pos q]
      · rw [if_neg (by omega), if_neg q]
    · rw [if_neg hk, if_neg]
      omega
  rw [Finset.sum_congr rfl key]
  by_cases hk : w.val / 16 = k
  · simp only [if_pos hk]
  · simp only [if_neg hk, Finset.sum_const_zero]

include hs ht in
/-- The sum over the tiles of their counts at a place of half `k`. -/
theorem sum_hits (k : Fin 2) (n : ℕ) (hn : n < 10240) (y : S160x128.Idx) (hy : 128 * (y 0).val + (y 1).val = n + 10240 * k.val) :
    ∑ w : Fin 32, hits (chunk s t w) (w.val / 16) y 10000 = Degree.count (fun j => mine s t (16 * k.val) (ValueIdx.ix1 j)) n := by
  rw [Finset.sum_congr rfl fun w _ => hits_eq s t hs ht w k.val n hn y hy,
    Fin.sum_univ_eq_sum_range (fun w => if w / 16 = k.val then ∑ j ∈ Finset.range 10000, has (mine s t w) n (10000 * (w % 16) + j) else 0) 32,
    count_eq, show (160000 : ℕ) = 10000 * 16 from rfl, ← sum_chunks 10000, show (32 : ℕ) = 16 + 16 from rfl, Finset.sum_range_add]
  have lo : ∀ w ∈ Finset.range 16, w / 16 = 0 ∧ w % 16 = w ∧ w < 16 ∧ (16 + w) / 16 = 1 ∧ (16 + w) % 16 = w ∧ ¬ 16 + w < 16 := fun w hw => by
    have := Finset.mem_range.1 hw; omega
  match k with
  | ⟨0, _⟩ =>
    rw [Finset.sum_eq_zero (s := Finset.range 16) (f := fun w => if (16 + w) / 16 = 0 then _ else 0) fun w hw => by
      rw [if_neg]; have := lo w hw; omega, Nat.add_zero]
    refine Finset.sum_congr rfl fun w hw => ?_
    obtain ⟨h1, h2, h3, -, -, -⟩ := lo w hw
    rw [if_pos h1, h2]
    unfold mine
    rw [if_pos h3]; rfl
  | ⟨1, _⟩ =>
    rw [Finset.sum_eq_zero (s := Finset.range 16) (f := fun w => if w / 16 = 1 then _ else 0) fun w hw => by
      rw [if_neg]; have := lo w hw; omega, Nat.zero_add]
    refine Finset.sum_congr rfl fun w hw => ?_
    obtain ⟨-, -, -, h1, h2, h3⟩ := lo w hw
    rw [if_pos h1, h2]
    unfold mine
    rw [if_neg h3]; rfl

include hs ht in
/-- The partial counts at a place of half `k`, reduced over the tiles, as one word. -/
theorem reduced (k : Fin 2) (n : ℕ) (hn : n < 10240) (R : Fin 160) (p : Fin 128) (hR : 128 * R.val + p.val = n + 10240 * k.val)
    (a : IVec S32x8x128 32) (r : Fin 8) (ha : ∀ w : Fin 32, a (ValueIdx.ix3 w r p) = outF s t (ValueIdx.ix3 w R p)) :
    multiReductionI .add [0] S8x128 a 0#32 reduces_S32x8x128_S8x128 rfl (ValueIdx.ix2 r p)
      = BitVec.ofNat 32 (Degree.count (fun j => mine s t (16 * k.val) (ValueIdx.ix1 j)) n) := by
  have hc := count_le (fun j => mine s t (16 * k.val) (ValueIdx.ix1 j)) n
  have hsum : ∑ i ∈ Finset.univ.filter (fun i => Shape.Reduces.drop reduces_S32x8x128_S8x128 i = ValueIdx.ix2 r p), (a i).toNat
      = ∑ w : Fin 32, (a (ValueIdx.ix3 w r p)).toNat := by
    rw [Finset.sum_filter, sum_idx3]
    refine Finset.sum_congr rfl fun w _ => ?_
    have hd : ∀ (r' : Fin 8) (p' : Fin 128), (Shape.Reduces.drop reduces_S32x8x128_S8x128 (ValueIdx.ix3 w r' p') = ValueIdx.ix2 r p) ↔ (r' = r ∧ p' = p) := by
      intro r' p'
      have d0 := reduces_S32x8x128_S8x128.drop_apply_val_of_eq (ValueIdx.ix3 w r' p') 0 1
      have d1 := reduces_S32x8x128_S8x128.drop_apply_val_of_eq (ValueIdx.ix3 w r' p') 1 2
      constructor
      · intro h
        rw [h] at d0 d1
        exact ⟨Fin.ext d0.symm, Fin.ext d1.symm⟩
      · rintro ⟨rfl, rfl⟩
        funext x
        match x with
        | ⟨0, _⟩ => exact Fin.ext d0
        | ⟨1, _⟩ => exact Fin.ext d1
    rw [Finset.sum_eq_single r, Finset.sum_eq_single p]
    · exact if_pos ((hd r p).2 ⟨rfl, rfl⟩)
    · intro p' _ hp; exact if_neg fun h => hp ((hd r p').1 h).2
    · intro h; exact absurd (Finset.mem_univ _) h
    · intro r' _ hr; exact Finset.sum_eq_zero fun p' _ => if_neg fun h => hr ((hd r' p').1 h).1
    · intro h; exact absurd (Finset.mem_univ _) h
  have hw : ∀ w : Fin 32, (a (ValueIdx.ix3 w r p)).toNat = hits (chunk s t w) (w.val / 16) (yy (ValueIdx.ix3 w R p)) 10000 := by
    intro w
    rw [ha w]
    show (BitVec.ofNat 32 (hits (chunk s t w) (w.val / 16) (yy (ValueIdx.ix3 w R p)) 10000)).toNat = _
    have hle : hits (chunk s t w) (w.val / 16) (yy (ValueIdx.ix3 w R p)) 10000 ≤ 10000 := by
      unfold hits
      calc _ ≤ ∑ _j ∈ Finset.range 10000, 1 := Finset.sum_le_sum fun j _ => by unfold hit; split <;> [split <;> omega; omega]
        _ = 10000 := by simp
    rw [BitVec.toNat_ofNat]
    omega
  have hall : ∑ w : Fin 32, (a (ValueIdx.ix3 w r p)).toNat = Degree.count (fun j => mine s t (16 * k.val) (ValueIdx.ix1 j)) n := by
    rw [← sum_hits s t hs ht k n hn (yy (ValueIdx.ix3 (0 : Fin 32) R p)) hR]
    exact Finset.sum_congr rfl fun w _ => hw w
  apply BitVec.eq_of_toNat_eq
  rw [WordSum.toNat_multiReductionI_add a reduces_S32x8x128_S8x128 rfl _ (by rw [hsum, hall]; omega), hsum, hall, BitVec.toNat_ofNat]
  omega

end Cert.Proof.Total

end
-- ==== Proof.TcValue.lean ====
/-
  What the TensorCore kernel's block holds over the extended reals: a product with a one-hot matrix picks rows of a table, so
  every node's entry gets the two rows that its clipped counts pick, and node 0 gets nothing.
-/
module

public import proofs.«01_k».proof.Proof.TcBody
public import proofs.«01_k».proof.Proof.Degree
public import Idealize.ShloMosaic.Lib.Pointwise.Contract
public import Idealize.ShloMosaic.Lib.WordCmp
public import Idealize.ShloMosaic.Lib.ValueLayout

@[expose] public section

noncomputable section

namespace Cert.Proof.TcValue

open Cert.KernelIdeal Cert.KernelIdeal.Gen
open Cert.Proof.TcBody
open Idealize.ShloMosaic
open scoped BigOperators

section Text
variable {F : FTy → Type} [FloatOps F]

theorem slice_row (k : Fin 8) : S8x128.Slices ![k.val, 0] S1x128 := by revert k; decide

/-- The one-hot matrix of row `k` of the clipped counts `q`: column `p` has its one at the row `q` names. -/
def hot (q : IVec S8x128 32) (k : Fin 8) : FVec F S64x128 .f32 :=
  sitofp .f32 (extui 32 (cmpi .eq (iota .tc S64x128 32 [0] iota_S64x128_d0_w32)
    (broadcastTo S64x128 (extractStridedSlice S1x128 ![k.val, 0] q (slice_row k)) broadcasts_S1x128_S64x128)) natLt_1_32)

/-- A one-hot matrix's product with a table. -/
def pick (q : IVec S8x128 32) (k : Fin 8) (z : FVec F S64x256 .f32) : FVec F S128x256 .f32 :=
  matmul dot_S64x128_S64x256_S128x256_0_0_1_1_n_n (some .fp32) (hot q k) z (constant S128x256 .f32 0x00000000#32)

/-- The rows picked for sub-block `k`: of `zi` by the counts `qi`, of `zo` by the counts `qo`. -/
def picked (qi qo : IVec S8x128 32) (zi zo : FVec F S64x256 .f32) (k : Fin 8) : FVec F S128x256 .f32 := addf (pick qi k zi) (pick qo k zo)

/-- Which nodes of block `i0` are not node 0. -/
def notFirst (i0 : BitVec 32) : IVec S1024x256 1 :=
  broadcastTo S1024x256 (shapeCast S1024x1 (cmpi .sgt (addi (broadcast S1024x1 (Scalar.muli i0 1024#32)) (iota .tc S1024x1 32 [0] iota_S1024x1_d0_w32))
    (broadcast S1024x1 0#32)) shapeCasts_S1024x1_S1024x1) broadcasts_S1024x1_S1024x256

/-- The rows `v` added to the block `x`, except at node 0. -/
def placed (i0 : BitVec 32) (v : FVec F S1024x256 .f32) (x : FVec F S8x1024x256 .f32) : FVec F S8x1024x256 .f32 :=
  addf x (broadcastTo S8x1024x256 (shapeCast S1x1024x256 (select (notFirst i0) v (broadcast S1024x256 (Scalar.ofBits .f32 0x00000000#32)))
    shapeCasts_S1024x256_S1x1024x256) broadcasts_S1x1024x256_S8x1024x256)

/-- Eight sub-blocks one below the other. -/
def stacked (f : Fin 8 → FVec F S128x256 .f32) : FVec F S1024x256 .f32 :=
  concatenate S1024x256 0 (List.ofFn fun k : Fin 8 => (⟨S128x256, f k⟩ : (s : Shape) × (s.Idx → F .f32)))
    concatenates_S128x256_S128x256_S128x256_S128x256_S128x256_S128x256_S128x256_S128x256_S1024x256_d0

theorem stacked_apply (f : Fin 8 → FVec F S128x256 .f32) (r : Fin 1024) (k : Fin 8) (p : Fin 128) (hr : r.val = 128 * k.val + p.val)
    (c : Fin 256) : stacked f (ValueIdx.ix2 r c) = f k (ValueIdx.ix2 p c) := by
  have hk := k.isLt
  have hp := p.isLt
  exact concatenate_ofFn_apply (t := S1024x256) (s₁ := S128x256) 0 f
    concatenates_S128x256_S128x256_S128x256_S128x256_S128x256_S128x256_S128x256_S128x256_S1024x256_d0 rfl 128 rfl (ValueIdx.ix2 r c) k
    (by show r.val / 128 = k.val; omega) (ValueIdx.ix2 p c) (by show p.val = r.val % 128; omega) (fun b hb => by
      match b with
      | ⟨0, _⟩ => exact absurd rfl hb
      | ⟨1, _⟩ => rfl)

/-- The block's text in these words. -/
theorem tcOut_eq (i0 : ℕ) (a b : Vec F S32x8x128 .i32) (zi zo : Vec F S64x256 .f32) (x : Vec F S8x1024x256 .f32) :
    tcOut i0 a b zi zo x = placed (BitVec.ofNat 32 i0)
      (stacked fun k => picked (k1_pay3 b) (k1_pay2 a) zi zo k) x := rfl
end Text

/-- The one-hot matrix at a place: one where the count is the row's number, else zero. -/
theorem hot_apply (q : IVec S8x128 32) (k : Fin 8) (r : Fin 64) (p : Fin 128) (n : Fin 64) (h : q (ValueIdx.ix2 k p) = BitVec.ofNat 32 n.val) :
    hot (F := Ideal) q k (ValueIdx.ix2 r p) = (if n = r then 1 else 0 : EReal) := by
  have e : (broadcastTo S64x128 (extractStridedSlice S1x128 ![k.val, 0] q (slice_row k)) broadcasts_S1x128_S64x128) (ValueIdx.ix2 r p) = BitVec.ofNat 32 n.val := by
    rw [Idealize.ShloMosaic.ValueIdx.broadcastTo_1b_ab_apply, ← h]
    refine extractStridedSlice_apply _ q _ _ _ fun a => ?_
    match a with
    | ⟨0, _⟩ => show k.val = k.val + 0; omega
    | ⟨1, _⟩ => show p.val = 0 + p.val; omega
  show (((BitVec.setWidth 32 (IntOp.cmpi .eq (iota .tc S64x128 32 [0] iota_S64x128_d0_w32 (ValueIdx.ix2 r p))
    ((broadcastTo S64x128 (extractStridedSlice S1x128 ![k.val, 0] q (slice_row k)) broadcasts_S1x128_S64x128) (ValueIdx.ix2 r p)))).toInt : ℝ) : EReal) = _
  rw [e, iota_single_apply]
  show (((BitVec.setWidth 32 (IntOp.cmpi .eq (BitVec.ofNat 32 r.val) (BitVec.ofNat 32 n.val))).toInt : ℝ) : EReal) = _
  have hr := r.isLt
  have hn := n.isLt
  by_cases c : n = r
  · subst c
    rw [if_pos rfl, (WordCmp.cmpi_eq_ofNat_eq_one_iff (by omega) (by omega)).2 rfl]
    have : (BitVec.setWidth 32 (1#1)).toInt = 1 := by decide
    rw [this]; simp
  · rw [if_neg c, (WordCmp.cmpi_eq_ofNat_eq_zero_iff (by omega) (by omega)).2 fun q => c (Fin.ext q.symm)]
    have : (BitVec.setWidth 32 (0#1)).toInt = 0 := by decide
    rw [this]; simp

/-- The product with a one-hot matrix is the row that the count names. -/
theorem pick_apply (q : IVec S8x128 32) (k : Fin 8) (z : FVec Ideal S64x256 .f32) (p : Fin 128) (c : Fin 256) (n : Fin 64)
    (h : q (ValueIdx.ix2 k p) = BitVec.ofNat 32 n.val) : pick q k z (ValueIdx.ix2 p c) = z (ValueIdx.ix2 n c) := by
  have e := Ideal.matmul_apply₁_of dot_S64x128_S64x256_S128x256_0_0_1_1_n_n rfl (K := 64) rfl (hot (F := Ideal) q k) z
    (constant (F := Ideal) S128x256 .f32 0x00000000#32) (ValueIdx.ix2 p c) (fun r => ValueIdx.ix2 r p) (fun r => ValueIdx.ix2 r c)
    (fun r => by funext a; match a with | ⟨0, _⟩ => rfl | ⟨1, _⟩ => rfl) (fun r => by funext a; match a with | ⟨0, _⟩ => rfl | ⟨1, _⟩ => rfl)
  refine Eq.trans e ?_
  have h0 : constant (F := Ideal) S128x256 .f32 0x00000000#32 (ValueIdx.ix2 p c) = (0 : EReal) := by
    show Scalar.ofBits (F := Ideal) .f32 0x00000000#32 = 0
    simp
  rw [h0, zero_add, Finset.sum_congr rfl fun r _ => by rw [hot_apply q k r p n h, ite_mul, one_mul, zero_mul]]
  simp

/-- Node `r` of block `i0` is node 0 only for both 0. -/
theorem notFirst_apply (i0 : ℕ) (hi : i0 < 10) (r : Fin 1024) (c : Fin 256) :
    notFirst (BitVec.ofNat 32 i0) (ValueIdx.ix2 r c) = if 1024 * i0 + r.val = 0 then 0#1 else 1#1 := by
  unfold notFirst
  rw [broadcastTo_apply _ _ _ (ValueIdx.ix2 r (0 : Fin 1)) fun a => by match a with | ⟨0, _⟩ => rfl | ⟨1, _⟩ => rfl,
    shapeCast_apply _ _ (ValueIdx.ix2 r (0 : Fin 1)) (ValueIdx.ix2 r (0 : Fin 1)) rfl]
  show IntOp.cmpi .sgt (IntOp.addi (IntOp.muli (BitVec.ofNat 32 i0) (BitVec.ofNat 32 1024)) (iota .tc S1024x1 32 [0] iota_S1024x1_d0_w32 (ValueIdx.ix2 r (0 : Fin 1)))) (BitVec.ofNat 32 0) = _
  rw [iota_single_apply, WordCmp.muli_ofNat]
  show IntOp.cmpi .sgt (IntOp.addi _ (BitVec.ofNat 32 r.val)) _ = _
  rw [WordCmp.addi_ofNat]
  have hr := r.isLt
  by_cases e : 1024 * i0 + r.val = 0
  · rw [if_pos e]
    exact (WordCmp.cmpi_sgt_ofNat_eq_zero_iff (by omega) (by omega)).2 (by omega)
  · rw [if_neg e]
    exact (WordCmp.cmpi_sgt_ofNat_eq_one_iff (by omega) (by omega)).2 (by omega)

theorem placed_apply (i0 : ℕ) (hi : i0 < 10) (v : FVec Ideal S1024x256 .f32) (x : FVec Ideal S8x1024x256 .f32) (b : Fin 8) (r : Fin 1024) (c : Fin 256) :
    placed (BitVec.ofNat 32 i0) v x (ValueIdx.ix3 b r c)
      = if 1024 * i0 + r.val = 0 then x (ValueIdx.ix3 b r c) else (HAdd.hAdd (α := EReal) (β := EReal) (γ := EReal) (x (ValueIdx.ix3 b r c)) (v (ValueIdx.ix2 r c))) := by
  refine (show placed (BitVec.ofNat 32 i0) v x (ValueIdx.ix3 b r c) = HAdd.hAdd (α := EReal) (β := EReal) (γ := EReal) (x (ValueIdx.ix3 b r c))
    ((broadcastTo S8x1024x256 (shapeCast S1x1024x256 (select (notFirst (BitVec.ofNat 32 i0)) v (broadcast S1024x256 (Scalar.ofBits .f32 0x00000000#32)))
      shapeCasts_S1024x256_S1x1024x256) broadcasts_S1x1024x256_S8x1024x256) (ValueIdx.ix3 b r c)) from rfl).trans ?_
  rw [broadcastTo_apply _ _ _ (ValueIdx.ix3 (0 : Fin 1) r c) fun a => by match a with | ⟨0, _⟩ => rfl | ⟨1, _⟩ => rfl | ⟨2, _⟩ => rfl,
    shapeCast_apply _ _ (ValueIdx.ix3 (0 : Fin 1) r c) (ValueIdx.ix2 r c) (by
      rw [Shape.rowMajor_val_two, Shape.rowMajor_val_three]
      show r.val * 256 + c.val = (0 * 1024 + r.val) * 256 + c.val
      omega)]
  refine (congrArg (HAdd.hAdd (α := EReal) (β := EReal) (γ := EReal) _) (show select (notFirst (BitVec.ofNat 32 i0)) v (broadcast S1024x256 (Scalar.ofBits (F := Ideal) .f32 0x00000000#32)) (ValueIdx.ix2 r c)
    = Scalar.select (notFirst (BitVec.ofNat 32 i0) (ValueIdx.ix2 r c)) (v (ValueIdx.ix2 r c)) (Scalar.ofBits (F := Ideal) .f32 0x00000000#32) from rfl)).trans ?_
  rw [notFirst_apply i0 hi]
  by_cases e : 1024 * i0 + r.val = 0
  · rw [if_pos e, if_pos e, WordCmp.select_of_eq_zero rfl]
    have h0 : Scalar.ofBits (F := Ideal) .f32 0x00000000#32 = (0 : EReal) := by simp
    rw [h0]; exact add_zero _
  · rw [if_neg e, if_neg e, WordCmp.select_of_eq_one rfl]

/-- The block at node `128 k + p` of block `i0`, from the clipped counts there. -/
theorem tcOut_apply (i0 : ℕ) (hi : i0 < 10) (a b : Vec Ideal S32x8x128 .i32) (zi zo : Vec Ideal S64x256 .f32) (x : Vec Ideal S8x1024x256 .f32)
    (e : Fin 8) (r : Fin 1024) (k : Fin 8) (p : Fin 128) (hr : r.val = 128 * k.val + p.val) (c : Fin 256) (ni no : Fin 64)
    (hni : k1_pay3 b (ValueIdx.ix2 k p) = BitVec.ofNat 32 ni.val) (hno : k1_pay2 a (ValueIdx.ix2 k p) = BitVec.ofNat 32 no.val) :
    tcOut i0 a b zi zo x (ValueIdx.ix3 e r c)
      = if 1024 * i0 + r.val = 0 then x (ValueIdx.ix3 e r c)
        else (HAdd.hAdd (α := EReal) (β := EReal) (γ := EReal) (x (ValueIdx.ix3 e r c))
          (HAdd.hAdd (α := EReal) (β := EReal) (γ := EReal) (zi (ValueIdx.ix2 ni c)) (zo (ValueIdx.ix2 no c)))) := by
  rw [tcOut_eq, placed_apply i0 hi]
  rw [stacked_apply _ r k p hr]
  have h : picked (F := Ideal) (k1_pay3 b) (k1_pay2 a) zi zo k (ValueIdx.ix2 p c)
      = (HAdd.hAdd (α := EReal) (β := EReal) (γ := EReal) (zi (ValueIdx.ix2 ni c)) (zo (ValueIdx.ix2 no c))) :=
    congrArg₂ (fun s t : EReal => s + t) (pick_apply _ k zi p c ni hni) (pick_apply _ k zo p c no hno)
  rw [h]

end Cert.Proof.TcValue

end
-- ==== Proof.RefDegree.lean ====
/-
  The reference's degree of every node: ones added over the extended reals at the endpoints, converted to an integer and clipped at
  63, is the count of the endpoints clipped at 63.
-/
module

public import proofs.«01_k».proof.Proof.Degree
public import proofs.«01_k».proof.Proof.Columns
public import proofs.«01_k».proof.Proof.Gen.ReferenceIdeal
public import Idealize.ShloMosaic.Lib.Routing.OpsPair
public import Idealize.ShloMosaic.Lib.IdealHost
public import Idealize.ShloMosaic.Lib.Pointwise.Index

@[expose] public section

noncomputable section

namespace Cert.Proof.RefDegree

open Cert.ReferenceIdeal Cert.ReferenceIdeal.Gen
open Cert.Proof.Degree
open Idealize.ShloMosaic
open scoped BigOperators

section Text
variable {F : FTy → Type} [FloatOps F]

/-- Which endpoints count: those that are not -1. -/
def valid (v : IVec S160000 32) : IVec S160000 1 := cmpi .ne v (broadcastInDim S160000 ![] bcast_S_S160000 (constantI S_ 32 4294967295#32))

/-- The endpoints as the scatter reads them. -/
def places (v : IVec S160000 32) : IVec S160000x1 32 :=
  broadcastInDim S160000x1 ![0] bcast_S160000_S160000x1_0 (select (valid v) v (broadcastInDim S160000 ![] bcast_S_S160000 (id (constantI S_ 32 0#32))))

/-- The degrees as floats. -/
def degF (v : IVec S160000 32) : FVec F S10000 .f32 :=
  Host.scatterAdd scatter_S10000_S160000x1_S160000_n_0_0_1 (broadcastInDim S10000 ![] bcast_S_S10000 (constant S_ .f32 0x00000000#32)) (places v)
    (uitofp .f32 (valid v))

/-- The clipped degrees. -/
def degI (F : FTy → Type) [FloatOps F] (v : IVec S160000 32) : IVec S10000 32 :=
  minsi (fptosi 32 (degF (F := F) v)) (broadcastInDim S10000 ![] bcast_S_S10000 (constantI S_ 32 63#32))
end Text

/-- The count over the places of a vector. -/
theorem count_idx (v : S160000.Idx → BitVec 32) (n : ℕ) :
    ∑ j : S160000.Idx, (if (v j).toNat = n then 1 else 0 : ℕ) = count (fun j => v (ValueIdx.ix1 j)) n := by
  unfold Degree.count
  exact Idealize.ShloMosaic.sum_idx1 (n0 := 160000) (fun j => if (v j).toNat = n then 1 else 0)

/-- Update `k` lands at node `n` exactly when its endpoint, read signed, is `n`. -/
theorem lands (idx : IVec S160000x1 32) (k : Fin 160000) (n : Fin 10000) :
    scatter_S10000_S160000x1_S160000_n_0_0_1.resultIdx? (ValueIdx.ix1 k) idx = some (ValueIdx.ix1 n)
      ↔ (idx (ValueIdx.ix2 k (0 : Fin 1))).toInt = (n.val : Int) := by
  rw [Routing.resultIdx?_ix1 (N := 10000)]
  have hw : scatter_S10000_S160000x1_S160000_n_0_0_1.window (ValueIdx.ix1 k) 0 = 0 := rfl
  have hi : scatter_S10000_S160000x1_S160000_n_0_0_1.siIdx (ValueIdx.ix1 k) ⟨0, by decide⟩ = ValueIdx.ix2 k (0 : Fin 1) := by
    funext b
    match b with
    | ⟨0, _⟩ => rfl
    | ⟨1, _⟩ => rfl
  have hs : scatter_S10000_S160000x1_S160000_n_0_0_1.start (ValueIdx.ix1 k) idx 0 = (idx (ValueIdx.ix2 k (0 : Fin 1))).toInt := by
    rw [← hi]; rfl
  rw [hw, hs]
  simp

theorem valid_apply (v : IVec S160000 32) (hv : ∀ j, (v j).toNat < 10000) (j) : valid v j = 1#1 := by
  show IntOp.cmpi .ne (v j) (broadcastInDim S160000 ![] bcast_S_S160000 (constantI S_ 32 4294967295#32) j) = 1#1
  rw [ValueIdx.broadcastInDim_scalar_apply]
  show IntOp.cmpi .ne (v j) 4294967295#32 = 1#1
  have : v j ≠ 4294967295#32 := fun h => by have := hv j; rw [h] at this; revert this; decide
  rw [WordCmp.cmpi_ne_eq]; simp [this]

theorem places_apply (v : IVec S160000 32) (hv : ∀ j, (v j).toNat < 10000) (k : Fin 160000) :
    places v (ValueIdx.ix2 k (0 : Fin 1)) = v (ValueIdx.ix1 k) := by
  unfold places
  rw [broadcastInDim_apply _ _ _ _ (ValueIdx.ix1 k) fun a => by match a with | ⟨0, _⟩ => rfl]
  show Scalar.select (valid v (ValueIdx.ix1 k)) _ _ = _
  rw [valid_apply v hv]; rfl

/-- The float degree of node `n` is the count of the endpoints that are `n`. -/
theorem degF_apply (v : IVec S160000 32) (hv : ∀ j, (v j).toNat < 10000) (n : Fin 10000) :
    degF (F := Ideal) v (ValueIdx.ix1 n) = (((count (fun j => v (ValueIdx.ix1 j)) n.val : ℕ) : ℝ) : EReal) := by
  show broadcastInDim S10000 ![] bcast_S_S10000 (constant (F := Ideal) S_ .f32 0x00000000#32) (ValueIdx.ix1 n)
    + ∑ j ∈ Finset.univ.filter (fun j : S160000.Idx => scatter_S10000_S160000x1_S160000_n_0_0_1.resultIdx? j (places v) = some (ValueIdx.ix1 n)),
      (((valid v j).toNat : ℝ) : EReal) = _
  rw [ValueIdx.broadcastInDim_scalar_apply, Finset.sum_filter]
  have h0 : constant (F := Ideal) S_ .f32 0x00000000#32 ValueIdx.ix0 = (0 : EReal) := by
    show Scalar.ofBits (F := Ideal) .f32 0x00000000#32 = 0
    simp
  rw [h0, zero_add]
  have hstep : ∀ j : S160000.Idx, (if scatter_S10000_S160000x1_S160000_n_0_0_1.resultIdx? j (places v) = some (ValueIdx.ix1 n)
      then (((valid v j).toNat : ℝ) : EReal) else 0) = (((if (v j).toNat = n.val then 1 else 0 : ℕ) : ℝ) : EReal) := fun j => by
    obtain ⟨k, rfl⟩ : ∃ k : Fin 160000, j = ValueIdx.ix1 k := ⟨j 0, Columns.eta1 j⟩
    have e : scatter_S10000_S160000x1_S160000_n_0_0_1.resultIdx? (ValueIdx.ix1 k) (places v) = some (ValueIdx.ix1 n)
        ↔ (v (ValueIdx.ix1 k)).toNat = n.val := by
      rw [lands, places_apply v hv, WordCmp.toInt_eq_toNat_of_lt_half (by have := hv (ValueIdx.ix1 k); omega)]
      omega
    by_cases h : (v (ValueIdx.ix1 k)).toNat = n.val
    · rw [if_pos (e.2 h), if_pos h, valid_apply v hv]; simp
    · rw [if_neg fun q => h (e.1 q), if_neg h]; simp
  rw [Finset.sum_congr rfl fun j _ => hstep j]
  rw [coe_sum]
  exact congrArg (fun k : ℕ => ((k : ℝ) : EReal)) (count_idx v n.val)

/-- The clipped degree of node `n`. -/
theorem degI_apply (v : IVec S160000 32) (hv : ∀ j, (v j).toNat < 10000) (n : Fin 10000) :
    degI Ideal v (ValueIdx.ix1 n) = BitVec.ofNat 32 (row (count (fun j => v (ValueIdx.ix1 j)) n.val)).val := by
  show IntOp.minsi (Ideal.fptosi 32 (degF (F := Ideal) v (ValueIdx.ix1 n))) (broadcastInDim S10000 ![] bcast_S_S10000 (constantI S_ 32 63#32) (ValueIdx.ix1 n)) = _
  rw [ValueIdx.broadcastInDim_scalar_apply, degF_apply v hv]
  show IntOp.minsi _ 63#32 = _
  have hc := count_le (fun j => v (ValueIdx.ix1 j)) n.val
  generalize count (fun j => v (ValueIdx.ix1 j)) n.val = k at hc ⊢
  rw [fptosi_count k hc, minsi_count k hc]

end Cert.Proof.RefDegree

end
-- ==== Proof.RefValue.lean ====
/-
  What the reference computes: the encoded array of the Degree module.
-/
module

public import proofs.«01_k».proof.Proof.RefDegree
public import proofs.«01_k».proof.Proof.Gen.ReferenceIdeal.Run
public import Idealize.ShloMosaic.Lib.Routing.Ops

@[expose] public section

noncomputable section

namespace Cert.Proof.RefValue

open Cert.ReferenceIdeal Cert.ReferenceIdeal.Gen
open Cert.Proof.Degree Cert.Proof.RefDegree
open Idealize.ShloMosaic Idealize.ShloMosaic.TcCoe

/-! ## A fold with one step that counts -/

/-- A fold whose condition never holds changes nothing. -/
theorem foldl_none {α β : Type} (p : β → Prop) [DecidablePred p] (g : α → β → α) (L : List β) (a : α) (h : ∀ n ∈ L, ¬ p n) :
    L.foldl (fun a n => if p n then g a n else a) a = a := by
  induction L with
  | nil => rfl
  | cons x L ih =>
    rw [List.foldl_cons, if_neg (h x (List.mem_cons_self ..))]
    exact ih fun n hn => h n (List.mem_cons_of_mem _ hn)

/-- A fold over distinct places whose condition holds at one of them takes that step alone. -/
theorem foldl_one {α β : Type} (p : β → Prop) [DecidablePred p] (g : α → β → α) (L : List β) (hL : L.Nodup) (a : α) (k : β) (hk : k ∈ L)
    (h : ∀ n, p n ↔ n = k) : L.foldl (fun a n => if p n then g a n else a) a = g a k := by
  induction L generalizing a with
  | nil => exact absurd hk List.not_mem_nil
  | cons x L ih =>
    have hx := List.nodup_cons.1 hL
    rw [List.foldl_cons]
    by_cases e : x = k
    · subst e
      rw [if_pos ((h x).2 rfl)]
      exact foldl_none p g L _ fun n hn hp => hx.1 ((h n).1 hp ▸ hn)
    · rw [if_neg fun hp => e ((h x).1 hp)]
      exact ih hx.2 a ((List.mem_cons.1 hk).resolve_left fun q => e q.symm)

/-! ## The rows taken -/

section Text
variable {F : FTy → Type} [FloatOps F]

/-- Row numbers with a negative one counted from the end. -/
def wrapped (d : IVec S10000 32) : IVec S10000x1 32 :=
  broadcastInDim S10000x1 ![0] bcast_S10000_S10000x1_0 (select (cmpi .slt d (broadcastInDim S10000 ![] bcast_S_S10000 (constantI S_ 32 0#32)))
    (addi d (broadcastInDim S10000 ![] bcast_S_S10000 (constantI S_ 32 64#32))) d)

/-- Which row numbers name a row of the table. -/
def inside (d : IVec S10000 32) : IVec S10000x1 1 :=
  andi (cmpi .sge (wrapped d) (broadcastInDim S10000x1 ![] bcast_S_S10000x1 (constantI S_ 32 0#32)))
    (cmpi .sle (wrapped d) (broadcastInDim S10000x1 ![0, 1] bcast_S1x1_S10000x1_0_1 (broadcastInDim S1x1 ![1] bcast_S1_S1x1_1 (constantI S1 32 63#32))))

/-- The rows of the table `z` that `d` numbers. -/
def taken (z : FVec F S64x256 .f32) (d : IVec S10000 32) : FVec F S10000x256 .f32 :=
  select (broadcastInDim S10000x256 ![0] bcast_S10000_S10000x256_0 (Host.reduce IntOp.andi (inside d) (constantI S_ 1 1#1) reducesTo_S10000x1_S10000_d1 h_S_))
    (Host.gather gather_S64x256_S10000x1_S10000x256_1_0_n_n_0_1_1256 z (wrapped d))
    (broadcastInDim S10000x256 ![] bcast_S_S10000x256 (constant S_ .f32 0x7FC00000#32))

/-- The array with the rows of `y` but its first added to the rows of `x` but its first. -/
def addRest (x : FVec F S8x10000x256 .f32) (y : FVec F S10000x256 .f32) : FVec F S8x10000x256 .f32 :=
  Host.scatter scatter_S8x10000x256_S1_S8x9999x256_012_n_1_0 FloatOps.addf x (broadcastInDim S1 ![] bcast_S_S1 (constantI S_ 32 1#32))
    (broadcastInDim S8x9999x256 ![0, 1, 2] bcast_S1x9999x256_S8x9999x256_0_1_2 (broadcastInDim S1x9999x256 ![1, 2] bcast_S9999x256_S1x9999x256_1_2
      (extractStridedSlice S9999x256 ![1, 0] y slices_S10000x256_S9999x256_1_0)))

/-- The reference's result in these words. -/
theorem res_eq (m : (ℓ : Loc nD τ sig) → Buf (Elt F) ℓ) (c : Dev nD) :
    Cert.ReferenceIdeal.Value.res_main_v31 m c = addRest (m ((c.tc : Thread nD τ).loc main_arg0))
      (addf (taken (m ((c.tc : Thread nD τ).loc main_arg2)) (degI F (shapeCast S160000 (extractStridedSlice S160000x1 ![0, 1] (m ((c.tc : Thread nD τ).loc main_arg1)) slices_S160000x2_S160000x1_0_1) shapeCasts_S160000x1_S160000)))
        (taken (m ((c.tc : Thread nD τ).loc main_arg3)) (degI F (shapeCast S160000 (extractStridedSlice S160000x1 ![0, 0] (m ((c.tc : Thread nD τ).loc main_arg1)) slices_S160000x2_S160000x1_0_0) shapeCasts_S160000x1_S160000)))) := rfl
end Text

/-- A row number below 64 stays as it is. -/
theorem wrapped_apply (d : IVec S10000 32) (k : Fin 10000 → Fin 64) (hd : ∀ n, d (ValueIdx.ix1 n) = BitVec.ofNat 32 (k n).val) (n : Fin 10000) :
    wrapped d (ValueIdx.ix2 n (0 : Fin 1)) = BitVec.ofNat 32 (k n).val := by
  unfold wrapped
  rw [broadcastInDim_apply _ _ _ _ (ValueIdx.ix1 n) fun a => by match a with | ⟨0, _⟩ => rfl]
  show Scalar.select (IntOp.cmpi .slt (d (ValueIdx.ix1 n)) (broadcastInDim S10000 ![] bcast_S_S10000 (constantI S_ 32 0#32) (ValueIdx.ix1 n))) _ (d (ValueIdx.ix1 n)) = _
  rw [ValueIdx.broadcastInDim_scalar_apply, hd]
  show Scalar.select (IntOp.cmpi .slt _ 0#32) _ _ = _
  refine Routing.wrap_of_lt _ _ ?_
  rw [BitVec.toNat_ofNat]
  have := (k n).isLt
  omega

theorem inside_apply (d : IVec S10000 32) (k : Fin 10000 → Fin 64) (hd : ∀ n, d (ValueIdx.ix1 n) = BitVec.ofNat 32 (k n).val) (i : S10000x1.Idx) :
    inside d i = 1#1 := by
  obtain ⟨n, rfl⟩ : ∃ n : Fin 10000, i = ValueIdx.ix2 n (0 : Fin 1) := ⟨i 0, by
    funext a
    match a with
    | ⟨0, _⟩ => rfl
    | ⟨1, _⟩ => exact Subsingleton.elim (α := Fin 1) _ _⟩
  show IntOp.andi (IntOp.cmpi .sge (wrapped d (ValueIdx.ix2 n (0 : Fin 1))) (broadcastInDim S10000x1 ![] bcast_S_S10000x1 (constantI S_ 32 0#32) (ValueIdx.ix2 n (0 : Fin 1))))
    (IntOp.cmpi .sle (wrapped d (ValueIdx.ix2 n (0 : Fin 1))) 63#32) = 1#1
  rw [ValueIdx.broadcastInDim_scalar_apply, wrapped_apply d k hd]
  show IntOp.andi (IntOp.cmpi .sge _ 0#32) _ = 1#1
  have hk := (k n).isLt
  have h0 : IntOp.cmpi .sge (BitVec.ofNat 32 (k n).val) (BitVec.ofNat 32 0) = 1#1 := (WordCmp.cmpi_sge_ofNat_eq_one_iff (by omega) (by omega)).2 (by omega)
  have h1 : IntOp.cmpi .sle (BitVec.ofNat 32 (k n).val) (BitVec.ofNat 32 63) = 1#1 := (WordCmp.cmpi_sle_ofNat_eq_one_iff (by omega) (by omega)).2 (by omega)
  exact congrArg₂ IntOp.andi h0 h1

/-- A selection read at one place. -/
theorem select_at {α : Type} {s : Shape} (q : IVec s 1) (x y : s.Idx → α) (i : s.Idx) : select q x y i = Scalar.select (q i) (x i) (y i) := rfl

/-- Row `n` of what is taken is the row of the table that `d` numbers. -/
theorem taken_apply (z : FVec Ideal S64x256 .f32) (d : IVec S10000 32) (k : Fin 10000 → Fin 64)
    (hd : ∀ n, d (ValueIdx.ix1 n) = BitVec.ofNat 32 (k n).val) (n : Fin 10000) (c : Fin 256) :
    taken z d (ValueIdx.ix2 n c) = z (ValueIdx.ix2 (k n) c) := by
  unfold taken
  rw [select_at]
  rw [broadcastInDim_apply _ _ _ _ (ValueIdx.ix1 n) fun a => by match a with | ⟨0, _⟩ => rfl]
  rw [Host.reduce_andi_one _ _ _ _ _ rfl (inside_apply d k hd)]
  exact Routing.gather_row gather_S64x256_S10000x1_S10000x256_1_0_n_n_0_1_1256 rfl rfl rfl rfl rfl z (wrapped d) n c (k n) (wrapped_apply d k hd n) (by norm_num)

/-! ## The rest of the rows added -/

/-- Update `j` lands one row further down. -/
theorem lands_rest (idx : IVec S1 32) (hi : ∀ a, idx a = 1#32) (j : S8x9999x256.Idx) (i : S8x10000x256.Idx) :
    scatter_S8x10000x256_S1_S8x9999x256_012_n_1_0.resultIdx? j idx = some i
      ↔ (j 0).val = (i 0).val ∧ (j 1).val + 1 = (i 1).val ∧ (j 2).val = (i 2).val := by
  have s0 : scatter_S8x10000x256_S1_S8x9999x256_012_n_1_0.start j idx 0 = 0 := rfl
  have s1 : scatter_S8x10000x256_S1_S8x9999x256_012_n_1_0.start j idx 1 = 1 := by
    unfold ScatterDims.start
    rw [dif_pos (show (1 : Fin 3) ∈ scatter_S8x10000x256_S1_S8x9999x256_012_n_1_0.scatterDimsToOperandDims from List.mem_singleton.2 rfl), hi]
    rfl
  have s2 : scatter_S8x10000x256_S1_S8x9999x256_012_n_1_0.start j idx 2 = 0 := rfl
  have w0 : scatter_S8x10000x256_S1_S8x9999x256_012_n_1_0.window j 0 = (j 0).val := rfl
  have w1 : scatter_S8x10000x256_S1_S8x9999x256_012_n_1_0.window j 1 = (j 1).val := rfl
  have w2 : scatter_S8x10000x256_S1_S8x9999x256_012_n_1_0.window j 2 = (j 2).val := rfl
  rw [Routing.resultIdx?_eq_some]
  constructor
  · intro h
    have h0 := h 0
    have h1 := h 1
    have h2 := h 2
    rw [s0, w0] at h0; rw [s1, w1] at h1; rw [s2, w2] at h2
    exact ⟨by omega, by omega, by omega⟩
  · rintro ⟨h0, h1, h2⟩ a
    match a with
    | ⟨0, _⟩ => rw [show (⟨0, _⟩ : Fin S8x10000x256.rank) = 0 from rfl, s0, w0]; omega
    | ⟨1, _⟩ => rw [show (⟨1, _⟩ : Fin S8x10000x256.rank) = 1 from rfl, s1, w1]; omega
    | ⟨2, _⟩ => rw [show (⟨2, _⟩ : Fin S8x10000x256.rank) = 2 from rfl, s2, w2]; omega

/-- The sum at node `n`: nothing is added at node 0. -/
theorem addRest_apply (x : FVec Ideal S8x10000x256 .f32) (y : FVec Ideal S10000x256 .f32) (b : Fin 8) (n : Fin 10000) (c : Fin 256) :
    addRest x y (ValueIdx.ix3 b n c) = if n.val = 0 then x (ValueIdx.ix3 b n c) else (x (ValueIdx.ix3 b n c) + y (ValueIdx.ix2 n c) : EReal) := by
  unfold addRest
  rw [Routing.scatter_at]
  have hi : ∀ a, (broadcastInDim S1 ![] bcast_S_S1 (constantI S_ 32 1#32) : IVec S1 32) a = 1#32 := fun a => by
    rw [ValueIdx.broadcastInDim_scalar_apply]; rfl
  generalize (broadcastInDim S1 ![] bcast_S_S1 (constantI S_ 32 1#32) : IVec S1 32) = idx at hi
  by_cases h : n.val = 0
  · rw [if_pos h]
    refine foldl_none _ (fun a q => FloatOps.addf a _) _ _ fun q _ hq => ?_
    have := ((lands_rest idx hi _ _).1 hq).2.1
    change _ = n.val at this
    omega
  · rw [if_neg h]
    have hn := n.isLt
    let j : S8x9999x256.Idx := ValueIdx.ix3 b (⟨n.val - 1, by omega⟩ : Fin 9999) c
    refine (foldl_one _ (fun (a : Ideal .f32) q => FloatOps.addf a _) _ (List.nodup_finRange _) _ (S8x9999x256.rowMajor j) (List.mem_finRange _) fun q => ?_).trans ?_
    · rw [lands_rest idx hi]
      constructor
      · rintro ⟨h0, h1, h2⟩
        rw [← S8x9999x256.rowMajor.symm_apply_eq]
        funext a
        apply Fin.ext
        match a with
        | ⟨0, _⟩ => exact h0
        | ⟨1, _⟩ => change _ + 1 = n.val at h1; show _ = n.val - 1; exact Nat.eq_sub_of_add_eq h1
        | ⟨2, _⟩ => exact h2
      · rintro rfl
        rw [Equiv.symm_apply_apply]
        exact ⟨rfl, Nat.sub_add_cancel (by omega), rfl⟩
    · simp only [Equiv.symm_apply_apply]
      show (x (ValueIdx.ix3 b n c) + _ : EReal) = _
      congr 1
      rw [broadcastInDim_apply _ _ _ _ (ValueIdx.ix3 (0 : Fin 1) (⟨n.val - 1, by omega⟩ : Fin 9999) c) fun a => by
          match a with
          | ⟨0, _⟩ => rfl
          | ⟨1, _⟩ => rfl
          | ⟨2, _⟩ => rfl,
        broadcastInDim_apply _ _ _ _ (ValueIdx.ix2 (⟨n.val - 1, by omega⟩ : Fin 9999) c) fun a => by
          match a with
          | ⟨0, _⟩ => rfl
          | ⟨1, _⟩ => rfl]
      refine extractStridedSlice_apply _ y _ _ _ fun a => ?_
      match a with
      | ⟨0, _⟩ => show n.val = 1 + (n.val - 1); omega
      | ⟨1, _⟩ => show c.val = 0 + c.val; omega

/-- The reference's result, entry by entry. -/
theorem res_apply (m : (ℓ : Loc nD τ sig) → Buf (Elt Ideal) ℓ) (d : Dev nD)
    (he : ∀ i, (m ((d.tc : Thread nD τ).loc main_arg1) i : BitVec 32).toNat < 10000) (b : Fin 8) (n : Fin 10000) (c : Fin 256) :
    Cert.ReferenceIdeal.Value.res_main_v31 m d (ValueIdx.ix3 b n c)
      = encoded (m ((d.tc : Thread nD τ).loc main_arg0)) (m ((d.tc : Thread nD τ).loc main_arg1)) (m ((d.tc : Thread nD τ).loc main_arg2))
          (m ((d.tc : Thread nD τ).loc main_arg3)) b n c := by
  rw [res_eq]
  refine (addRest_apply _ _ b n c).trans ?_
  unfold encoded
  by_cases h : n.val = 0
  · rw [if_pos h, if_pos h]
  rw [if_neg h, if_neg h]
  refine congrArg (HAdd.hAdd (α := EReal) (β := EReal) (γ := EReal) (m ((d.tc : Thread nD τ).loc main_arg0) (ValueIdx.ix3 b n c))) ?_
  have hcol : ∀ (k : Fin 2) (hs : S160000x2.Slices ![0, k.val] S160000x1) (n : Fin 10000),
      degI Ideal (shapeCast S160000 (extractStridedSlice S160000x1 ![0, k.val] (m ((d.tc : Thread nD τ).loc main_arg1)) hs) shapeCasts_S160000x1_S160000) (ValueIdx.ix1 n)
        = BitVec.ofNat 32 (row (count (col (m ((d.tc : Thread nD τ).loc main_arg1)) k) n.val)).val := fun k hs n => by
    have hap := Columns.column_apply k (m ((d.tc : Thread nD τ).loc main_arg1)) hs shapeCasts_S160000x1_S160000
    rw [degI_apply _ (fun j => by rw [Columns.eta1 j]; exact (congrArg BitVec.toNat (hap (j 0))).trans_lt (he _)) n]
    exact congrArg (fun g => BitVec.ofNat 32 (row (count g n.val)).val) (funext hap)
  exact congrArg₂ (fun p q : EReal => p + q)
    (taken_apply _ _ (fun n => row (count (col (m ((d.tc : Thread nD τ).loc main_arg1)) 1) n.val)) (hcol 1 slices_S160000x2_S160000x1_0_1) n c)
    (taken_apply _ _ (fun n => row (count (col (m ((d.tc : Thread nD τ).loc main_arg1)) 0) n.val)) (hcol 0 slices_S160000x2_S160000x1_0_0) n c)

end Cert.Proof.RefValue

end
-- ==== Proof.Value.lean ====
/-
  The kernel's result over the extended reals is the encoded array, and so is the reference's.
-/
module

public import proofs.«01_k».proof.Proof.Array
public import proofs.«01_k».proof.Proof.Total
public import proofs.«01_k».proof.Proof.TcValue
public import proofs.«01_k».proof.Proof.Frames
public import proofs.«01_k».proof.Proof.RefValue

@[expose] public section

noncomputable section

namespace Cert.Proof.Value

open Cert.KernelIdeal Cert.KernelIdeal.Gen
open Cert.Proof.TcBody Cert.Proof.Region Cert.Proof.Launch Cert.Proof.Common Cert.Proof.Columns Cert.Proof.Frames
open Idealize.ShloMosaic Idealize.SL.Sem Idealize.ShloMosaic.TcCoe

/-- The clipped counts of a block of partial counts, at a place. -/
theorem pay2_apply (a : Vec Ideal S32x8x128 .i32) (i : S8x128.Idx) : k1_pay2 (F := Ideal) a i
    = IntOp.minsi (multiReductionI .add [0] S8x128 (shapeCast S32x8x128 a shapeCasts_S32x8x128_S32x8x128) 0#32 reduces_S32x8x128_S8x128 rfl i) 63#32 := rfl
theorem pay3_apply (a : Vec Ideal S32x8x128 .i32) (i : S8x128.Idx) : k1_pay3 (F := Ideal) a i
    = IntOp.minsi (multiReductionI .add [0] S8x128 (shapeCast S32x8x128 a shapeCasts_S32x8x128_S32x8x128) 0#32 reduces_S32x8x128_S8x128 rfl i) 63#32 := rfl

/-- The first half's endpoints are the sources, the second's the destinations. -/
theorem mine0 (s t : S160000.Idx → BitVec 32) : Total.mine s t (16 * (0 : Fin 2).val) = s := if_pos (by decide)
theorem mine1 (s t : S160000.Idx → BitVec 32) : Total.mine s t (16 * (1 : Fin 2).val) = t := if_neg (by decide)

section
variable (m : (ℓ : Loc nD τ sig) → Buf (Elt Ideal) ℓ) (he : ∀ d i, (edges m d i).toNat < 10000)

theorem SF_count (d : Dev nD) (n : ℕ) : Degree.count (fun j => (SF m d : S160000.Idx → BitVec 32) (ValueIdx.ix1 j)) n = Degree.count (Degree.col (edges m d) 0) n :=
  congrArg (fun g => Degree.count g n) (funext fun j => SF_apply m d j)
theorem TF_count (d : Dev nD) (n : ℕ) : Degree.count (fun j => (TF m d : S160000.Idx → BitVec 32) (ValueIdx.ix1 j)) n = Degree.count (Degree.col (edges m d) 1) n :=
  congrArg (fun g => Degree.count g n) (funext fun j => TF_apply m d j)

include he in
theorem SF_lt' (d : Dev nD) (j : S160000.Idx) : ((SF m d : S160000.Idx → BitVec 32) j).toNat < 10000 := by
  have e : (SF m d : S160000.Idx → BitVec 32) j = edges m d (ValueIdx.ix2 (j 0) (0 : Fin 2)) := (congrArg (SF m d) (eta1 j)).trans (SF_apply m d (j 0))
  rw [e]; exact he d _
include he in
theorem TF_lt' (d : Dev nD) (j : S160000.Idx) : ((TF m d : S160000.Idx → BitVec 32) j).toNat < 10000 := by
  have e : (TF m d : S160000.Idx → BitVec 32) j = edges m d (ValueIdx.ix2 (j 0) (1 : Fin 2)) := (congrArg (TF m d) (eta1 j)).trans (TF_apply m d (j 0))
  rw [e]; exact he d _

include he in
/-- The clipped count of the sources, as the kernel's first window gives it. -/
theorem outgoing (d : Dev nD) (t : Fin cfg1.N) (k : Fin 8) (p : Fin 128) (n : ℕ) (hn : n = 1024 * t.val + (128 * k.val + p.val)) :
    k1_pay2 (blkA (Vr m) d t) (ValueIdx.ix2 k p) = BitVec.ofNat 32 (Degree.row (Degree.count (Degree.col (edges m d) 0) n)).val := by
  have ht := (Array.coord t).2
  have hk := k.isLt
  have hp := p.isLt
  have h := Total.reduced (SF m d) (TF m d) (SF_lt' m he d) (TF_lt' m he d) 0 n (by omega)
    ⟨8 * t.val + k.val, by omega⟩ p (by show 128 * (8 * t.val + k.val) + p.val = n + 10240 * 0; omega)
    (shapeCast S32x8x128 (blkA (Vr m) d t) shapeCasts_S32x8x128_S32x8x128) k fun w =>
      (shapeCast_apply _ _ _ (ValueIdx.ix3 w k p) rfl).trans ((Array.blkA_apply (Vr m) d t w k p).trans (congrFun (Vr_v4 m d) _))
  rw [pay2_apply, h, mine0, SF_count]
  exact Degree.minsi_count _ (Degree.count_le _ _)

include he in
/-- The clipped count of the destinations, as its second window gives it. -/
theorem incoming (d : Dev nD) (t : Fin cfg1.N) (k : Fin 8) (p : Fin 128) (n : ℕ) (hn : n = 1024 * t.val + (128 * k.val + p.val)) :
    k1_pay3 (blkB (Vr m) d t) (ValueIdx.ix2 k p) = BitVec.ofNat 32 (Degree.row (Degree.count (Degree.col (edges m d) 1) n)).val := by
  have ht := (Array.coord t).2
  have hk := k.isLt
  have hp := p.isLt
  have h := Total.reduced (SF m d) (TF m d) (SF_lt' m he d) (TF_lt' m he d) 1 n (by omega)
    ⟨80 + (8 * t.val + k.val), by omega⟩ p (by show 128 * (80 + (8 * t.val + k.val)) + p.val = n + 10240 * 1; omega)
    (shapeCast S32x8x128 (blkB (Vr m) d t) shapeCasts_S32x8x128_S32x8x128) k fun w =>
      (shapeCast_apply _ _ _ (ValueIdx.ix3 w k p) rfl).trans ((Array.blkB_apply (Vr m) d t w k p).trans (congrFun (Vr_v4 m d) _))
  rw [pay3_apply, h, mine1, TF_count]
  exact Degree.minsi_count _ (Degree.count_le _ _)

/-- The encoded array of the kernel's arguments. -/
def goal (d : Dev nD) : S8x10000x256.Idx → EReal := fun i =>
  Degree.encoded (m (lc d main_arg0)) (edges m d) (m (lc d main_arg2)) (m (lc d main_arg3)) (i 0) (i 1) (i 2)

include he in
/-- The kernel's result is the encoded array. -/
theorem added_goal (d : Dev nD) : added (Vr m) d = goal m d := by
  refine Array.added_eq (F := Ideal) (Vr m) d (goal m d) fun t x b r n q hn hx => ?_
  have hr := r.isLt
  have e := TcValue.tcOut_apply t.val (Array.coord t).2 (blkA (Vr m) d t) (blkB (Vr m) d t) (tabI (Vr m) d t) (tabO (Vr m) d t) x b r
    ⟨r.val / 128, by omega⟩ ⟨r.val % 128, by omega⟩ (by show r.val = 128 * (r.val / 128) + r.val % 128; omega) q _ _
    (incoming m he d t _ _ n.val (by show n.val = 1024 * t.val + (128 * (r.val / 128) + r.val % 128); omega))
    (outgoing m he d t _ _ n.val (by show n.val = 1024 * t.val + (128 * (r.val / 128) + r.val % 128); omega))
  refine e.trans ?_
  rw [Array.tabI_apply, Array.tabO_apply, hx, ← hn, Vr_arg0, Vr_arg2, Vr_arg3]
  rfl

end

/-- Both programs, from equal arguments with the endpoints in range, leave the encoded array. -/
theorem algebraic : Cert.algebraic_KernelIdeal_ReferenceIdeal (hKernelIdeal := Cert.KernelIdeal.Gen.facts)
    (hReferenceIdeal := Cert.ReferenceIdeal.Gen.facts) (hPre_in_range := Cert.Pre_in_range.Gen.facts) := by
  intro m g m' g' hp ha
  have he : ∀ d i, (edges m d i).toNat < 10000 := fun d i => endpoints_lt _ _ _ _ (hp d) i
  refine ⟨fun c => goal m c, ?_, ?_⟩
  · refine (θ_run Cert.KernelIdeal.defs _ _).mono (fun r h c => ?_) (run_in_range (F := Ideal) m g he)
    obtain ⟨h0, h1, h2, h3, h5⟩ := h.1 c
    exact ⟨h5.trans (added_goal m he c), h0, h1, h2, h3⟩
  · refine (θ_run Cert.ReferenceIdeal.defs _ _).mono (fun r h c => ⟨(h c).1.trans ?_, (h c).2⟩) (Cert.ReferenceIdeal.Value.run (F := Ideal) m' g')
    obtain ⟨a0, a1, a2, a3⟩ := ha c
    funext i
    have hi : i = (ValueIdx.ix3 (i 0) (i 1) (i 2) : S8x10000x256.Idx) := by
      funext a
      match a with
      | ⟨0, _⟩ => rfl
      | ⟨1, _⟩ => rfl
      | ⟨2, _⟩ => rfl
    refine (congrArg _ hi).trans ((RefValue.res_apply m' c (fun j => ?_) (i 0) (i 1) (i 2)).trans ?_)
    · rw [a1]; exact he c j
    · rw [a0, a1, a2, a3]; rfl

end Cert.Proof.Value

end
-- ==== Proof.lean ====
/- The claims of the degree encodings' kernel, put together: the frames (Frames) and the value (Value). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Cert.Pre_in_range.Gen.facts,
  Frames.frame_kernel, Frames.frame_ideal, Frames.frame_ref, Frames.frame_ref_in_range, trivial, Value.algebraic⟩

end Cert.Proof

end
